-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)) (v5 : (c : Dev Cert.Kernel4Ideal.nD) → Buf (Elt Ideal) ((c.tc : Thread Cert.Kernel4Ideal.nD Cert.Kernel4Ideal.τ).loc Cert.Kernel4Ideal.main_v10_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_v10_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v125) = v1 c
          ∧ r.2.mem ((c.tc : Thread Cert.Reference4Ideal.nD Cert.Reference4Ideal.τ).loc Cert.Reference4Ideal.main_v128) = v2 c
          ∧ r.2.mem ((c.tc : Thread Cert.Reference4Ideal.nD Cert.Reference4Ideal.τ).loc Cert.Reference4Ideal.main_v174) = v3 c
          ∧ r.2.mem ((c.tc : Thread Cert.Reference4Ideal.nD Cert.Reference4Ideal.τ).loc Cert.Reference4Ideal.main_v218) = v4 c
          ∧ r.2.mem ((c.tc : Thread Cert.Reference4Ideal.nD Cert.Reference4Ideal.τ).loc Cert.Reference4Ideal.main_v221) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_values.lean ====
abbrev S4x8192x512 : Shape := ⟨3, ![4, 8192, 512]⟩
abbrev S4x512x8192 : Shape := ⟨3, ![4, 512, 8192]⟩
abbrev S4x256x512 : Shape := ⟨3, ![4, 256, 512]⟩
abbrev S4x512x256 : Shape := ⟨3, ![4, 512, 256]⟩
abbrev S4x64 : Shape := ⟨2, ![4, 64]⟩
abbrev S1x128 : Shape := ⟨2, ![1, 128]⟩
abbrev S_ : Shape := ⟨0, ![]⟩

class Facts : Prop where
  bitsLt_bf16_f32 : FTy.bits .bf16 < FTy.bits .f32
  bcast_S_S4x512x8192 : S_.BroadcastsInDim S4x512x8192 (![] : Fin 0 → Fin S4x512x8192.rank)
  bcast_S_S4x512x256 : S_.BroadcastsInDim S4x512x256 (![] : Fin 0 → Fin S4x512x256.rank)
  bcast_S_S4x64 : S_.BroadcastsInDim S4x64 (![] : Fin 0 → Fin S4x64.rank)

variable [Facts]

def fn {F : FTy → Type} [FloatOps F] (main_arg0 : FVec F S4x8192x512 .bf16) (main_arg1 : FVec F S4x8192x512 .bf16) (main_arg2 : FVec F S4x512x8192 .bf16) (main_arg3 : FVec F S4x256x512 .bf16) (main_arg4 : FVec F S4x512x256 .bf16) (main_arg5 : FVec F S4x64 .f32) (main_arg6 : FVec F S1x128 .f32) : IVec S4x512x8192 1 × IVec S4x512x256 1 × IVec S4x64 1 :=
  let main_v0 : FVec F S4x512x8192 .f32 := (extf .f32 · bitsLt_bf16_f32) main_arg2
  let main_v1 : FVec F S4x512x8192 .f32 := Host.absf main_v0
  let main_cst : FVec F S_ .f32 := constant S_ .f32 0x7F800000#32
  let main_v2 : FVec F S4x512x8192 .f32 := broadcastInDim S4x512x8192 ![] bcast_S_S4x512x8192 main_cst
  let main_v3 : IVec S4x512x8192 1 := cmpf .olt main_v1 main_v2
  let main_v4 : FVec F S4x512x256 .f32 := (extf .f32 · bitsLt_bf16_f32) main_arg4
  let main_v5 : FVec F S4x512x256 .f32 := Host.absf main_v4
  let main_cst_0 : FVec F S_ .f32 := constant S_ .f32 0x7F800000#32
  let main_v6 : FVec F S4x512x256 .f32 := broadcastInDim S4x512x256 ![] bcast_S_S4x512x256 main_cst_0
  let main_v7 : IVec S4x512x256 1 := cmpf .olt main_v5 main_v6
  let main_v8 : FVec F S4x64 .f32 := Host.absf main_arg5
  let main_cst_1 : FVec F S_ .f32 := constant S_ .f32 0x7F800000#32
  let main_v9 : FVec F S4x64 .f32 := broadcastInDim S4x64 ![] bcast_S_S4x64 main_cst_1
  let main_v10 : IVec S4x64 1 := cmpf .olt main_v8 main_v9
  (main_v3, main_v7, main_v10)
-- ==== Kernel.lean ====
abbrev S4x8192x512 : Shape := ⟨3, ![4, 8192, 512]⟩
abbrev S4x512x8192 : Shape := ⟨3, ![4, 512, 8192]⟩
abbrev S4x256x512 : Shape := ⟨3, ![4, 256, 512]⟩
abbrev S4x512x256 : Shape := ⟨3, ![4, 512, 256]⟩
abbrev S4x64 : Shape := ⟨2, ![4, 64]⟩
abbrev S1x128 : Shape := ⟨2, ![1, 128]⟩
abbrev S1x8192x128 : Shape := ⟨3, ![1, 8192, 128]⟩
abbrev S1x256x128 : Shape := ⟨3, ![1, 256, 128]⟩
abbrev S1x128x8192 : Shape := ⟨3, ![1, 128, 8192]⟩
abbrev S1x128x256 : Shape := ⟨3, ![1, 128, 256]⟩
abbrev S8448x128 : Shape := ⟨2, ![8448, 128]⟩
abbrev S144x8448 : Shape := ⟨2, ![144, 8448]⟩
abbrev S8448x256 : Shape := ⟨2, ![8448, 256]⟩
abbrev S256x128 : Shape := ⟨2, ![256, 128]⟩
abbrev S8192x128 : Shape := ⟨2, ![8192, 128]⟩
abbrev S128x256 : Shape := ⟨2, ![128, 256]⟩
abbrev S128x8192 : Shape := ⟨2, ![128, 8192]⟩
abbrev S16x8448 : Shape := ⟨2, ![16, 8448]⟩
abbrev S1x64 : Shape := ⟨2, ![1, 64]⟩
abbrev S1 : Shape := ⟨1, ![1]⟩
abbrev S1x1 : Shape := ⟨2, ![1, 1]⟩
abbrev S1x128x128 : Shape := ⟨3, ![1, 128, 128]⟩
abbrev S128x128 : Shape := ⟨2, ![128, 128]⟩
abbrev S256 : Shape := ⟨1, ![256]⟩
abbrev S1x256 : Shape := ⟨2, ![1, 256]⟩
abbrev S144x256 : Shape := ⟨2, ![144, 256]⟩
abbrev S128 : Shape := ⟨1, ![128]⟩
abbrev S128x1 : Shape := ⟨2, ![128, 1]⟩

abbrev nBuf : Space → Nat
  | .hbm => 8
  | .vmem => 19
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x512x8192, .bf16⟩
  | .hbm, ⟨3, _⟩ => ⟨S4x256x512, .bf16⟩
  | .hbm, ⟨4, _⟩ => ⟨S4x512x256, .bf16⟩
  | .hbm, ⟨5, _⟩ => ⟨S4x64, .f32⟩
  | .hbm, ⟨6, _⟩ => ⟨S1x128, .f32⟩
  | .hbm, ⟨7, _⟩ => ⟨S4x8192x512, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x8192, .bf16⟩
  | .local _ .vmem, ⟨7, _⟩ => ⟨S1x128x8192, .bf16⟩
  | .local _ .vmem, ⟨8, _⟩ => ⟨S1x128x256, .bf16⟩
  | .local _ .vmem, ⟨9, _⟩ => ⟨S1x128x256, .bf16⟩
  | .local _ .vmem, ⟨10, _⟩ => ⟨S4x64, .f32⟩
  | .local _ .vmem, ⟨11, _⟩ => ⟨S1x128, .f32⟩
  | .local _ .vmem, ⟨12, _⟩ => ⟨S1x8192x128, .bf16⟩
  | .local _ .vmem, ⟨13, _⟩ => ⟨S1x8192x128, .bf16⟩
  | .local _ .vmem, ⟨14, _⟩ => ⟨S8448x128, .bf16⟩
  | .local _ .vmem, ⟨15, _⟩ => ⟨S144x8448, .bf16⟩
  | .local _ .vmem, ⟨16, _⟩ => ⟨S8448x256, .f32⟩
  | .local _ .vmem, ⟨17, _⟩ => ⟨S8448x256, .f32⟩
  | .local _ .vmem, ⟨18, _⟩ => ⟨S8448x256, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
def k0_mult2 : BitVec 32 :=
  let c128_i32 : BitVec 32 := 128#32
  c128_i32
@[reducible] def k0_t1_loop : Scf.Loop 32 :=
  let c0_i32_45 : BitVec 32 := 0#32
  let c21_i32 : BitVec 32 := 21#32
  let v83 : BitVec 32 := Scalar.addi c0_i32_45 c21_i32
  let c1_i32 : BitVec 32 := 1#32
  ⟨c0_i32_45, v83, c1_i32⟩
def k0_mult3 (k0_t1 : Fin k0_t1_loop.trips) : BitVec 32 :=
  let c3_i32 : BitVec 32 := 3#32
  let c0_i32_45 : BitVec 32 := 0#32
  let c1_i32 : BitVec 32 := 1#32
  let arg15 : BitVec 32 := Scf.iv c0_i32_45 c1_i32 k0_t1
  let v123 : BitVec 32 := Scalar.muli c3_i32 arg15
  let c2_i32 : BitVec 32 := 2#32
  let v124 : BitVec 32 := Scalar.addi v123 c2_i32
  let c128_i32_60 : BitVec 32 := 128#32
  let v125 : BitVec 32 := Scalar.muli v124 c128_i32_60
  v125
def k0_off1 (k0_t1 : Fin k0_t1_loop.trips) (c2_i32 : BitVec 32) : Fin 3 → Nat :=
  let c0_61 : Index := 0#32
  let c3_i32 : BitVec 32 := 3#32
  let c0_i32_45 : BitVec 32 := 0#32
  let c1_i32 : BitVec 32 := 1#32
  let arg15 : BitVec 32 := Scf.iv c0_i32_45 c1_i32 k0_t1
  let v123 : BitVec 32 := Scalar.muli c3_i32 arg15
  let v124 : BitVec 32 := Scalar.addi v123 c2_i32
  let c128_i32_60 : BitVec 32 := 128#32
  let v125 : BitVec 32 := Scalar.muli v124 c128_i32_60
  let v126 : BitVec 32 := v125
  let v127 : Index := Scalar.indexCast v126
  let c0_62 : Index := 0#32
  ![0, v127.toNat, 0]
def k0_mult4 (k0_t1 : Fin k0_t1_loop.trips) : BitVec 32 :=
  let c3_i32 : BitVec 32 := 3#32
  let c0_i32_45 : BitVec 32 := 0#32
  let c1_i32 : BitVec 32 := 1#32
  let arg15 : BitVec 32 := Scf.iv c0_i32_45 c1_i32 k0_t1
  let v123 : BitVec 32 := Scalar.muli c3_i32 arg15
  let c128_i32_80 : BitVec 32 := 128#32
  let v179 : BitVec 32 := Scalar.muli v123 c128_i32_80
  v179
def k0_off2 (k0_t1 : Fin k0_t1_loop.trips) : Fin 3 → Nat :=
  let c0_81 : Index := 0#32
  let c3_i32 : BitVec 32 := 3#32
  let c0_i32_45 : BitVec 32 := 0#32
  let c1_i32 : BitVec 32 := 1#32
  let arg15 : BitVec 32 := Scf.iv c0_i32_45 c1_i32 k0_t1
  let v123 : BitVec 32 := Scalar.muli c3_i32 arg15
  let c128_i32_80 : BitVec 32 := 128#32
  let v179 : BitVec 32 := Scalar.muli v123 c128_i32_80
  let v180 : BitVec 32 := v179
  let v181 : Index := Scalar.indexCast v180
  let c0_82 : Index := 0#32
  ![0, v181.toNat, 0]
def k0_mult5 (k0_t1 : Fin k0_t1_loop.trips) : BitVec 32 :=
  let c3_i32 : BitVec 32 := 3#32
  let c0_i32_45 : BitVec 32 := 0#32
  let c1_i32 : BitVec 32 := 1#32
  let arg15 : BitVec 32 := Scf.iv c0_i32_45 c1_i32 k0_t1
  let v123 : BitVec 32 := Scalar.muli c3_i32 arg15
  let c3_i32_83 : BitVec 32 := 3#32
  let v185 : BitVec 32 := Scalar.addi v123 c3_i32_83
  let c128_i32_84 : BitVec 32 := 128#32
  let v186 : BitVec 32 := Scalar.muli v185 c128_i32_84
  v186
def k0_mult6 (k0_t1 : Fin k0_t1_loop.trips) : BitVec 32 :=
  let c3_i32 : BitVec 32 := 3#32
  let c0_i32_45 : BitVec 32 := 0#32
  let c1_i32 : BitVec 32 := 1#32
  let arg15 : BitVec 32 := Scf.iv c0_i32_45 c1_i32 k0_t1
  let v123 : BitVec 32 := Scalar.muli c3_i32 arg15
  let c1_i32_93 : BitVec 32 := 1#32
  let v207 : BitVec 32 := Scalar.addi v123 c1_i32_93
  let c128_i32_105 : BitVec 32 := 128#32
  let v241 : BitVec 32 := Scalar.muli v207 c128_i32_105
  v241
def k0_mult7 (k0_t1 : Fin k0_t1_loop.trips) : BitVec 32 :=
  let c3_i32 : BitVec 32 := 3#32
  let c0_i32_45 : BitVec 32 := 0#32
  let c1_i32 : BitVec 32 := 1#32
  let arg15 : BitVec 32 := Scf.iv c0_i32_45 c1_i32 k0_t1
  let v123 : BitVec 32 := Scalar.muli c3_i32 arg15
  let c4_i32 : BitVec 32 := 4#32
  let v247 : BitVec 32 := Scalar.addi v123 c4_i32
  let c63_i32 : BitVec 32 := 63#32
  let v248 : BitVec 32 := Scalar.minsi v247 c63_i32
  let c128_i32_108 : BitVec 32 := 128#32
  let v249 : BitVec 32 := Scalar.muli v248 c128_i32_108
  v249
def k0_off3 (k0_t1 : Fin k0_t1_loop.trips) : Fin 3 → Nat :=
  let c0_109 : Index := 0#32
  let c3_i32 : BitVec 32 := 3#32
  let c0_i32_45 : BitVec 32 := 0#32
  let c1_i32 : BitVec 32 := 1#32
  let arg15 : BitVec 32 := Scf.iv c0_i32_45 c1_i32 k0_t1
  let v123 : BitVec 32 := Scalar.muli c3_i32 arg15
  let c4_i32 : BitVec 32 := 4#32
  let v247 : BitVec 32 := Scalar.addi v123 c4_i32
  let c63_i32 : BitVec 32 := 63#32
  let v248 : BitVec 32 := Scalar.minsi v247 c63_i32
  let c128_i32_108 : BitVec 32 := 128#32
  let v249 : BitVec 32 := Scalar.muli v248 c128_i32_108
  let v250 : BitVec 32 := v249
  let v251 : Index := Scalar.indexCast v250
  let c0_110 : Index := 0#32
  ![0, v251.toNat, 0]
def k0_mult8 (k0_t1 : Fin k0_t1_loop.trips) : BitVec 32 :=
  let c3_i32 : BitVec 32 := 3#32
  let c0_i32_45 : BitVec 32 := 0#32
  let c1_i32 : BitVec 32 := 1#32
  let arg15 : BitVec 32 := Scf.iv c0_i32_45 c1_i32 k0_t1
  let v123 : BitVec 32 := Scalar.muli c3_i32 arg15
  let c2_i32_117 : BitVec 32 := 2#32
  let v270 : BitVec 32 := Scalar.addi v123 c2_i32_117
  let c128_i32_129 : BitVec 32 := 128#32
  let v304 : BitVec 32 := Scalar.muli v270 c128_i32_129
  v304
def k0_mult9 : BitVec 32 :=
  let c8064_i32 : BitVec 32 := 8064#32
  c8064_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x8192x512 : Shape := ⟨3, ![4, 8192, 512]⟩
abbrev S4x512x8192 : Shape := ⟨3, ![4, 512, 8192]⟩
abbrev S4x256x512 : Shape := ⟨3, ![4, 256, 512]⟩
abbrev S4x512x256 : Shape := ⟨3, ![4, 512, 256]⟩
abbrev S4x64 : Shape := ⟨2, ![4, 64]⟩
abbrev S1x128 : Shape := ⟨2, ![1, 128]⟩
abbrev S1x64 : Shape := ⟨2, ![1, 64]⟩
abbrev S64 : Shape := ⟨1, ![64]⟩
abbrev S_ : Shape := ⟨0, ![]⟩
abbrev S4x8192x4x2x64 : Shape := ⟨5, ![4, 8192, 4, 2, 64]⟩
abbrev S4x8448x512 : Shape := ⟨3, ![4, 8448, 512]⟩
abbrev S4x8448x4x2x64 : Shape := ⟨5, ![4, 8448, 4, 2, 64]⟩
abbrev S4x512x8448 : Shape := ⟨3, ![4, 512, 8448]⟩
abbrev S4x4x128x8448 : Shape := ⟨4, ![4, 4, 128, 8448]⟩
abbrev S4x8192x4x1x64 : Shape := ⟨5, ![4, 8192, 4, 1, 64]⟩
abbrev S4x8192x4x64 : Shape := ⟨4, ![4, 8192, 4, 64]⟩
abbrev S4x8448x4x1x64 : Shape := ⟨5, ![4, 8448, 4, 1, 64]⟩
abbrev S4x8448x4x64 : Shape := ⟨4, ![4, 8448, 4, 64]⟩
abbrev S4x4x8192x8448 : Shape := ⟨4, ![4, 4, 8192, 8448]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S128 : Shape := ⟨1, ![128]⟩
abbrev S1x1x1x128 : Shape := ⟨4, ![1, 1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x512x8192, .bf16⟩
  | .hbm, ⟨3, _⟩ => ⟨S4x256x512, .bf16⟩
  | .hbm, ⟨4, _⟩ => ⟨S4x512x256, .bf16⟩
  | .hbm, ⟨5, _⟩ => ⟨S4x64, .f32⟩
  | .hbm, ⟨6, _⟩ => ⟨S1x128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8192x512, .f32⟩
  | .hbm, ⟨29, _⟩ => ⟨S4x8192x4x2x64, .f32⟩
  | .hbm, ⟨30, _⟩ => ⟨S4x8448x512, .bf16⟩
  | .hbm, ⟨31, _⟩ => ⟨S4x8448x512, .f32⟩
  | .hbm, ⟨32, _⟩ => ⟨S4x8448x4x2x64, .f32⟩
  | .hbm, ⟨33, _⟩ => ⟨S4x512x8448, .bf16⟩
  | .hbm, ⟨34, _⟩ => ⟨S4x512x8448, .f32⟩
  | .hbm, ⟨35, _⟩ => ⟨S4x4x128x8448, .f32⟩
  | .hbm, ⟨36, _⟩ => ⟨S4x8192x4x1x64, .f32⟩
  | .hbm, ⟨37, _⟩ => ⟨S4x8192x4x64, .f32⟩
  | .hbm, ⟨38, _⟩ => ⟨S4x8192x4x1x64, .f32⟩
  | .hbm, ⟨39, _⟩ => ⟨S4x8192x4x64, .f32⟩
  | .hbm, ⟨40, _⟩ => ⟨S4x8448x4x1x64, .f32⟩
  | .hbm, ⟨41, _⟩ => ⟨S4x8448x4x64, .f32⟩
  | .hbm, ⟨42, _⟩ => ⟨S4x8448x4x1x64, .f32⟩
  | .hbm, ⟨43, _⟩ => ⟨S4x8448x4x64, .f32⟩
  | .hbm, ⟨44, _⟩ => ⟨S4x4x8192x8448, .f32⟩
  | .hbm, ⟨45, _⟩ => ⟨S4x4x8192x8448, .f32⟩
  | .hbm, ⟨46, _⟩ => ⟨S4x4x8192x8448, .f32⟩
  | .hbm, ⟨47, _⟩ => ⟨S_, .f32⟩
  | .hbm, ⟨48, _⟩ => ⟨S4x4x8192, .f32⟩
  | .hbm, ⟨49, _⟩ => ⟨S_, .f32⟩
  | .hbm, ⟨50, _⟩ => ⟨S4x4x8192, .f32⟩
  | .hbm, ⟨51, _⟩ => ⟨S4x4x8192, .f32⟩
  | .hbm, ⟨52, _⟩ => ⟨S4x4x8192x1, .f32⟩
  | .hbm, ⟨53, _⟩ => ⟨S4x4x8192x8448, .f32⟩
  | .hbm, ⟨54, _⟩ => ⟨S4x4x8192x8448, .f32⟩
  | .hbm, ⟨55, _⟩ => ⟨S4x4x8192x8448, .f32⟩
  | .hbm, ⟨56, _⟩ => ⟨S_, .f32⟩
  | .hbm, ⟨57, _⟩ => ⟨S4x4x8192, .f32⟩
  | .hbm, ⟨58, _⟩ => ⟨S4x4x8192x1, .f32⟩
  | .hbm, ⟨59, _⟩ => ⟨S4x4x8192x8448, .f32⟩
  | .hbm, ⟨60, _⟩ => ⟨S4x4x8192x8448, .f32⟩
  | .hbm, ⟨61, _⟩ => ⟨S4x4x8192x8448, .f32⟩
  | .hbm, ⟨62, _⟩ => ⟨S4x4x8192x8448, .f32⟩
  | .hbm, ⟨63, _⟩ => ⟨S4x4x8192x8448, .f32⟩
  | .hbm, ⟨64, _⟩ => ⟨S_, .f32⟩
  | .hbm, ⟨65, _⟩ => ⟨S4x4x8192, .f32⟩
  | .hbm, ⟨66, _⟩ => ⟨S_, .f32⟩
  | .hbm, ⟨67, _⟩ => ⟨S4x4x8192, .f32⟩
  | .hbm, ⟨68, _⟩ => ⟨S4x4x8192, .f32⟩
  | .hbm, ⟨69, _⟩ => ⟨S4x4x8192x1, .f32⟩
  | .hbm, ⟨70, _⟩ => ⟨S4x4x8192x8448, .f32⟩
  | .hbm, ⟨71, _⟩ => ⟨S4x4x8192x8448, .f32⟩
  | .hbm, ⟨72, _⟩ => ⟨S4x4x8192x8448, .f32⟩
  | .hbm, ⟨73, _⟩ => ⟨S_, .f32⟩
  | .hbm, ⟨74, _⟩ => ⟨S4x4x8192, .f32⟩
  | .hbm, ⟨75, _⟩ => ⟨S4x4x8192x1, .f32⟩
  | .hbm, ⟨76, _⟩ => ⟨S4x4x8192x8448, .f32⟩
  | .hbm, ⟨77, _⟩ => ⟨S4x4x8192x8448, .f32⟩
  | .hbm, ⟨78, _⟩ => ⟨S4x4x8192x8448, .f32⟩
  | .hbm, ⟨79, _⟩ => ⟨S4x4x8192x8448, .f32⟩
  | .hbm, ⟨80, _⟩ => ⟨S4x4x8192x8448, .f32⟩
  | .hbm, ⟨81, _⟩ => ⟨S4x4x128x8192, .f32⟩
  | .hbm, ⟨82, _⟩ => ⟨S4x8192x4x128, .f32⟩
  | .hbm, ⟨83, _⟩ => ⟨S4x8192x4x128, .f32⟩
  | .hbm, ⟨84, _⟩ => ⟨S_, .f32⟩
  | .hbm, ⟨85, _⟩ => ⟨S4x8192x4, .f32⟩
  | .hbm, ⟨86, _⟩ => ⟨S4x8192x4x1, .f32⟩
  | .hbm, ⟨87, _⟩ => ⟨S_, .f32⟩
  | .hbm, ⟨88, _⟩ => ⟨S4x8192x4x1, .f32⟩
  | .hbm, ⟨89, _⟩ => ⟨S4x8192x4x1, .f32⟩
  | .hbm, ⟨90, _⟩ => ⟨S_, .f32⟩
  | .hbm, ⟨91, _⟩ => ⟨S4x8192x4x1, .f32⟩
  | .hbm, ⟨92, _⟩ => ⟨S4x8192x4x1, .f32⟩
  | .hbm, ⟨93, _⟩ => ⟨S4x8192x4x1, .f32⟩
  | .hbm, ⟨94, _⟩ => ⟨S4x8192x4x128, .f32⟩
  | .hbm, ⟨95, _⟩ => ⟨S4x8192x4x128, .f32⟩
  | .hbm, ⟨96, _⟩ => ⟨S128, .f32⟩
  | .hbm, ⟨97, _⟩ => ⟨S1x1x1x128, .f32⟩
  | .hbm, ⟨98, _⟩ => ⟨S4x8192x4x128, .f32⟩
  | .hbm, ⟨99, _⟩ => ⟨S4x8192x4x128, .f32⟩
  | .hbm, ⟨100, _⟩ => ⟨S_, .f32⟩
  | .hbm, ⟨101, _⟩ => ⟨S4x8192x4x128, .f32⟩
  | .hbm, ⟨102, _⟩ => ⟨S4x8192x4x128, .f32⟩
  | .hbm, ⟨103, _⟩ => ⟨S4x8192x512, .f32⟩
  | .hbm, ⟨104, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Kernel2.lean ====
abbrev S32768x1024 : Shape := ⟨2, ![32768, 1024]⟩
abbrev S4x9x1024 : Shape := ⟨3, ![4, 9, 1024]⟩
abbrev S1x1024 : Shape := ⟨2, ![1, 1024]⟩
abbrev S2x2x1024x5632 : Shape := ⟨4, ![2, 2, 1024, 5632]⟩
abbrev S2x2x2816x1024 : Shape := ⟨4, ![2, 2, 2816, 1024]⟩
abbrev S1024x1024 : Shape := ⟨2, ![1024, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1x1x1024x256 : Shape := ⟨4, ![1, 1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S4x9x1024, .f32⟩
  | .hbm, ⟨2, _⟩ => ⟨S1x1024, .f32⟩
  | .hbm, ⟨3, _⟩ => ⟨S1x1024, .f32⟩
  | .hbm, ⟨4, _⟩ => ⟨S2x2x1024x5632, .bf16⟩
  | .hbm, ⟨5, _⟩ => ⟨S2x2x2816x1024, .bf16⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024, .f32⟩
  | .local _ .vmem, ⟨6, _⟩ => ⟨S1x1x1024x5632, .bf16⟩
  | .local _ .vmem, ⟨7, _⟩ => ⟨S1x1x2816x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S4x9x1024 : Shape := ⟨3, ![4, 9, 1024]⟩
abbrev S1x1024 : Shape := ⟨2, ![1, 1024]⟩
abbrev S2x2x1024x5632 : Shape := ⟨4, ![2, 2, 1024, 5632]⟩
abbrev S2x2x2816x1024 : Shape := ⟨4, ![2, 2, 2816, 1024]⟩
abbrev S4x8192x1024 : Shape := ⟨3, ![4, 8192, 1024]⟩
abbrev S9x4x1024 : Shape := ⟨3, ![9, 4, 1024]⟩
abbrev S9x4x1x1024 : Shape := ⟨4, ![9, 4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x4x1x1024 : Shape := ⟨4, ![1, 4, 1, 1024]⟩
abbrev S4x1x1024 : Shape := ⟨3, ![4, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 83
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x9x1024, .f32⟩
  | .hbm, ⟨2, _⟩ => ⟨S1x1024, .f32⟩
  | .hbm, ⟨3, _⟩ => ⟨S1x1024, .f32⟩
  | .hbm, ⟨4, _⟩ => ⟨S2x2x1024x5632, .bf16⟩
  | .hbm, ⟨5, _⟩ => ⟨S2x2x2816x1024, .bf16⟩
  | .hbm, ⟨6, _⟩ => ⟨S4x8192x1024, .f32⟩
  | .hbm, ⟨7, _⟩ => ⟨S9x4x1024, .f32⟩
  | .hbm, ⟨8, _⟩ => ⟨S9x4x1x1024, .f32⟩
  | .hbm, ⟨9, _⟩ => ⟨S1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S1x4x1x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S1x4x1x1024, .f32⟩
  | .hbm, ⟨34, _⟩ => ⟨S4x1x1024, .f32⟩
  | .hbm, ⟨35, _⟩ => ⟨S4x8192x1024, .f32⟩
  | .hbm, ⟨36, _⟩ => ⟨S4x8192x1024, .f32⟩
  | .hbm, ⟨37, _⟩ => ⟨S1x1x1024x5632, .bf16⟩
  | .hbm, ⟨38, _⟩ => ⟨S1024x5632, .bf16⟩
  | .hbm, ⟨39, _⟩ => ⟨S1024x5632, .f32⟩
  | .hbm, ⟨40, _⟩ => ⟨S1x1x2816x1024, .bf16⟩
  | .hbm, ⟨41, _⟩ => ⟨S2816x1024, .bf16⟩
  | .hbm, ⟨42, _⟩ => ⟨S2816x1024, .f32⟩
  | .hbm, ⟨43, _⟩ => ⟨S4x8192x5632, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S_, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S4x8192x1024, .f32⟩
  | .hbm, ⟨57, _⟩ => ⟨S1x4x1x1024, .f32⟩
  | .hbm, ⟨58, _⟩ => ⟨S4x1x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S1024, .f32⟩
  | .hbm, ⟨63, _⟩ => ⟨S4x8192x1024, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S_, .f32⟩
  | .hbm, ⟨68, _⟩ => ⟨S4x8192x1, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x1, .f32⟩
  | .hbm, ⟨74, _⟩ => ⟨S4x8192x1024, .f32⟩
  | .hbm, ⟨75, _⟩ => ⟨S4x8192x1024, .f32⟩
  | .hbm, ⟨76, _⟩ => ⟨S1x1x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel3.lean ====
abbrev S32768x512 : Shape := ⟨2, ![32768, 512]⟩
abbrev S1024x1024 : Shape := ⟨2, ![1024, 1024]⟩
abbrev S1x1024 : Shape := ⟨2, ![1, 1024]⟩
abbrev S32768x1024 : Shape := ⟨2, ![32768, 1024]⟩
abbrev S4x9x1024 : Shape := ⟨3, ![4, 9, 1024]⟩
abbrev S2x2x1024x5632 : Shape := ⟨4, ![2, 2, 1024, 5632]⟩
abbrev S2x2x2816x1024 : Shape := ⟨4, ![2, 2, 2816, 1024]⟩
abbrev S1024x512 : Shape := ⟨2, ![1024, 512]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 11
  | .vmem => 17
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .bf16⟩
  | .hbm, ⟨3, _⟩ => ⟨S1x1024, .f32⟩
  | .hbm, ⟨4, _⟩ => ⟨S32768x1024, .f32⟩
  | .hbm, ⟨5, _⟩ => ⟨S4x9x1024, .f32⟩
  | .hbm, ⟨6, _⟩ => ⟨S1x1024, .f32⟩
  | .hbm, ⟨7, _⟩ => ⟨S1x1024, .f32⟩
  | .hbm, ⟨8, _⟩ => ⟨S2x2x1024x5632, .bf16⟩
  | .hbm, ⟨9, _⟩ => ⟨S2x2x2816x1024, .bf16⟩
  | .hbm, ⟨10, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x9x1024, .f32⟩
  | .local _ .vmem, ⟨9, _⟩ => ⟨S1x9x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024x5632, .bf16⟩
  | .local _ .vmem, ⟨13, _⟩ => ⟨S1x1x2816x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x2816, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_9 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32768x512 : Shape := ⟨2, ![32768, 512]⟩
abbrev S1024x1024 : Shape := ⟨2, ![1024, 1024]⟩
abbrev S1x1024 : Shape := ⟨2, ![1, 1024]⟩
abbrev S32768x1024 : Shape := ⟨2, ![32768, 1024]⟩
abbrev S4x9x1024 : Shape := ⟨3, ![4, 9, 1024]⟩
abbrev S2x2x1024x5632 : Shape := ⟨4, ![2, 2, 1024, 5632]⟩
abbrev S2x2x2816x1024 : Shape := ⟨4, ![2, 2, 2816, 1024]⟩
abbrev S9x4x1024 : Shape := ⟨3, ![9, 4, 1024]⟩
abbrev S9x4x1x1024 : Shape := ⟨4, ![9, 4, 1, 1024]⟩
abbrev S4x8192x1024 : Shape := ⟨3, ![4, 8192, 1024]⟩
abbrev S1x4x1x1024 : Shape := ⟨4, ![1, 4, 1, 1024]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 114
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .bf16⟩
  | .hbm, ⟨3, _⟩ => ⟨S1x1024, .f32⟩
  | .hbm, ⟨4, _⟩ => ⟨S32768x1024, .f32⟩
  | .hbm, ⟨5, _⟩ => ⟨S4x9x1024, .f32⟩
  | .hbm, ⟨6, _⟩ => ⟨S1x1024, .f32⟩
  | .hbm, ⟨7, _⟩ => ⟨S1x1024, .f32⟩
  | .hbm, ⟨8, _⟩ => ⟨S2x2x1024x5632, .bf16⟩
  | .hbm, ⟨9, _⟩ => ⟨S2x2x2816x1024, .bf16⟩
  | .hbm, ⟨10, _⟩ => ⟨S9x4x1024, .f32⟩
  | .hbm, ⟨11, _⟩ => ⟨S9x4x1x1024, .f32⟩
  | .hbm, ⟨12, _⟩ => ⟨S32768x1024, .bf16⟩
  | .hbm, ⟨13, _⟩ => ⟨S32768x1024, .f32⟩
  | .hbm, ⟨14, _⟩ => ⟨S4x8192x1024, .f32⟩
  | .hbm, ⟨15, _⟩ => ⟨S1024x1024, .f32⟩
  | .hbm, ⟨16, _⟩ => ⟨S4x8192x1024, .f32⟩
  | .hbm, ⟨17, _⟩ => ⟨S4x8192x1024, .f32⟩
  | .hbm, ⟨18, _⟩ => ⟨S1x4x1x1024, .f32⟩
  | .hbm, ⟨19, _⟩ => ⟨S4x1x1024, .f32⟩
  | .hbm, ⟨20, _⟩ => ⟨S1024, .f32⟩
  | .hbm, ⟨21, _⟩ => ⟨S4x8192x1024, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S1024, .f32⟩
  | .hbm, ⟨41, _⟩ => ⟨S4x8192x1024, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x1024, .f32⟩
  | .hbm, ⟨53, _⟩ => ⟨S4x8192x1024, .f32⟩
  | .hbm, ⟨54, _⟩ => ⟨S1x1x1024, .f32⟩
  | .hbm, ⟨55, _⟩ => ⟨S4x8192x1024, .f32⟩
  | .hbm, ⟨56, _⟩ => ⟨S4x8192x1024, .f32⟩
  | .hbm, ⟨57, _⟩ => ⟨S1x4x1x1024, .f32⟩
  | .hbm, ⟨58, _⟩ => ⟨S4x1x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x8192x1024, .f32⟩
  | .hbm, ⟨63, _⟩ => ⟨S4x8192x1024, .f32⟩
  | .hbm, ⟨64, _⟩ => ⟨S1x4x1x1024, .f32⟩
  | .hbm, ⟨65, _⟩ => ⟨S4x1x1024, .f32⟩
  | .hbm, ⟨66, _⟩ => ⟨S4x8192x1024, .f32⟩
  | .hbm, ⟨67, _⟩ => ⟨S4x8192x1024, .f32⟩
  | .hbm, ⟨68, _⟩ => ⟨S1x1x1024x5632, .bf16⟩
  | .hbm, ⟨69, _⟩ => ⟨S1024x5632, .bf16⟩
  | .hbm, ⟨70, _⟩ => ⟨S1024x5632, .f32⟩
  | .hbm, ⟨71, _⟩ => ⟨S1x1x2816x1024, .bf16⟩
  | .hbm, ⟨72, _⟩ => ⟨S2816x1024, .bf16⟩
  | .hbm, ⟨73, _⟩ => ⟨S2816x1024, .f32⟩
  | .hbm, ⟨74, _⟩ => ⟨S4x8192x5632, .f32⟩
  | .hbm, ⟨75, _⟩ => ⟨S4x8192x2816, .f32⟩
  | .hbm, ⟨76, _⟩ => ⟨S4x8192x2816, .f32⟩
  | .hbm, ⟨77, _⟩ => ⟨S4x8192x2816, .f32⟩
  | .hbm, ⟨78, _⟩ => ⟨S4x8192x2816, .f32⟩
  | .hbm, ⟨79, _⟩ => ⟨S_, .f32⟩
  | .hbm, ⟨80, _⟩ => ⟨S4x8192x2816, .f32⟩
  | .hbm, ⟨81, _⟩ => ⟨S4x8192x2816, .f32⟩
  | .hbm, ⟨82, _⟩ => ⟨S_, .f32⟩
  | .hbm, ⟨83, _⟩ => ⟨S4x8192x2816, .f32⟩
  | .hbm, ⟨84, _⟩ => ⟨S4x8192x2816, .f32⟩
  | .hbm, ⟨85, _⟩ => ⟨S4x8192x2816, .f32⟩
  | .hbm, ⟨86, _⟩ => ⟨S4x8192x2816, .f32⟩
  | .hbm, ⟨87, _⟩ => ⟨S4x8192x1024, .f32⟩
  | .hbm, ⟨88, _⟩ => ⟨S1x4x1x1024, .f32⟩
  | .hbm, ⟨89, _⟩ => ⟨S4x1x1024, .f32⟩
  | .hbm, ⟨90, _⟩ => ⟨S_, .f32⟩
  | .hbm, ⟨91, _⟩ => ⟨S4x1x1024, .f32⟩
  | .hbm, ⟨92, _⟩ => ⟨S4x1x1024, .f32⟩
  | .hbm, ⟨93, _⟩ => ⟨S1024, .f32⟩
  | .hbm, ⟨94, _⟩ => ⟨S4x8192x1024, .f32⟩
  | .hbm, ⟨95, _⟩ => ⟨S_, .f32⟩
  | .hbm, ⟨96, _⟩ => ⟨S4x8192, .f32⟩
  | .hbm, ⟨97, _⟩ => ⟨S4x8192x1, .f32⟩
  | .hbm, ⟨98, _⟩ => ⟨S_, .f32⟩
  | .hbm, ⟨99, _⟩ => ⟨S4x8192x1, .f32⟩
  | .hbm, ⟨100, _⟩ => ⟨S4x8192x1, .f32⟩
  | .hbm, ⟨101, _⟩ => ⟨S_, .f32⟩
  | .hbm, ⟨102, _⟩ => ⟨S4x8192x1, .f32⟩
  | .hbm, ⟨103, _⟩ => ⟨S4x8192x1, .f32⟩
  | .hbm, ⟨104, _⟩ => ⟨S4x8192x1, .f32⟩
  | .hbm, ⟨105, _⟩ => ⟨S4x8192x1024, .f32⟩
  | .hbm, ⟨106, _⟩ => ⟨S4x8192x1024, .f32⟩
  | .hbm, ⟨107, _⟩ => ⟨S1x1x1024, .f32⟩
  | .hbm, ⟨108, _⟩ => ⟨S4x8192x1024, .f32⟩
  | .hbm, ⟨109, _⟩ => ⟨S4x8192x1024, .f32⟩
  | .hbm, ⟨110, _⟩ => ⟨S4x8192x1024, .f32⟩
  | .hbm, ⟨111, _⟩ => ⟨S4x8192x1024, .f32⟩
  | .hbm, ⟨112, _⟩ => ⟨S4x8192x1024, .f32⟩
  | .hbm, ⟨113, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_6 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_7 : Ref sig .tc := ⟨.hbm, 95, rfl⟩
abbrev main_v69 : Ref sig .tc := ⟨.hbm, 96, rfl⟩
abbrev main_v70 : Ref sig .tc := ⟨.hbm, 97, rfl⟩
abbrev main_cst_8 : Ref sig .tc := ⟨.hbm, 98, rfl⟩
abbrev main_v71 : Ref sig .tc := ⟨.hbm, 99, rfl⟩
abbrev main_v72 : Ref sig .tc := ⟨.hbm, 100, rfl⟩
abbrev main_cst_9 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]
-- ==== Kernel4.lean ====
abbrev S32768x1024 : Shape := ⟨2, ![32768, 1024]⟩
abbrev S4x9x1024 : Shape := ⟨3, ![4, 9, 1024]⟩
abbrev S1x1024 : Shape := ⟨2, ![1, 1024]⟩
abbrev S1024x2304 : Shape := ⟨2, ![1024, 2304]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S32768x512 : Shape := ⟨2, ![32768, 512]⟩
abbrev S4x512x8192 : Shape := ⟨3, ![4, 512, 8192]⟩
abbrev S32768x128 : Shape := ⟨2, ![32768, 128]⟩
abbrev S4x64x128x128 : Shape := ⟨4, ![4, 64, 128, 128]⟩
abbrev S512x1024 : Shape := ⟨2, ![512, 1024]⟩
abbrev S1x9x1024 : Shape := ⟨3, ![1, 9, 1024]⟩
abbrev S512x128 : Shape := ⟨2, ![512, 128]⟩
abbrev S512x512 : Shape := ⟨2, ![512, 512]⟩
abbrev S1x512x512 : Shape := ⟨3, ![1, 512, 512]⟩
abbrev S1x4x128x128 : Shape := ⟨4, ![1, 4, 128, 128]⟩
abbrev S512 : Shape := ⟨1, ![512]⟩
abbrev S512x1 : Shape := ⟨2, ![512, 1]⟩
abbrev S1x1x1024 : Shape := ⟨3, ![1, 1, 1024]⟩
abbrev S1x128 : Shape := ⟨2, ![1, 128]⟩
abbrev S1024x512 : Shape := ⟨2, ![1024, 512]⟩
abbrev S1024x128 : Shape := ⟨2, ![1024, 128]⟩
abbrev S128x512 : Shape := ⟨2, ![128, 512]⟩
abbrev S128x128 : Shape := ⟨2, ![128, 128]⟩
abbrev S1x1x128x128 : Shape := ⟨4, ![1, 1, 128, 128]⟩

abbrev nBuf : Space → Nat
  | .hbm => 24
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S4x9x1024, .f32⟩
  | .hbm, ⟨2, _⟩ => ⟨S1x1024, .f32⟩
  | .hbm, ⟨3, _⟩ => ⟨S1024x2304, .bf16⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x64, .f32⟩
  | .hbm, ⟨9, _⟩ => ⟨S8192x16, .f32⟩
  | .hbm, ⟨10, _⟩ => ⟨S8192x16, .f32⟩
  | .hbm, ⟨11, _⟩ => ⟨S8192x64, .f32⟩
  | .hbm, ⟨12, _⟩ => ⟨S1x8192x1x64, .f32⟩
  | .hbm, ⟨13, _⟩ => ⟨S1x8192x2x64, .f32⟩
  | .hbm, ⟨14, _⟩ => ⟨S8192x128, .f32⟩
  | .hbm, ⟨15, _⟩ => ⟨S1x8192x1x64, .f32⟩
  | .hbm, ⟨16, _⟩ => ⟨S1x8192x2x64, .f32⟩
  | .hbm, ⟨17, _⟩ => ⟨S8192x128, .f32⟩
  | .hbm, ⟨18, _⟩ => ⟨S32768x512, .bf16⟩
  | .hbm, ⟨19, _⟩ => ⟨S32768x512, .bf16⟩
  | .hbm, ⟨20, _⟩ => ⟨S4x512x8192, .bf16⟩
  | .hbm, ⟨21, _⟩ => ⟨S32768x512, .bf16⟩
  | .hbm, ⟨22, _⟩ => ⟨S32768x128, .bf16⟩
  | .hbm, ⟨23, _⟩ => ⟨S4x64x128x128, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2304, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512x512, .bf16⟩
  | .local _ .vmem, ⟨15, _⟩ => ⟨S1x512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S512x128, .bf16⟩
  | .local _ .vmem, ⟨20, _⟩ => ⟨S1x4x128x128, .bf16⟩
  | .local _ .vmem, ⟨21, _⟩ => ⟨S1x4x128x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32768x1024 : Shape := ⟨2, ![32768, 1024]⟩
abbrev S4x9x1024 : Shape := ⟨3, ![4, 9, 1024]⟩
abbrev S1x1024 : Shape := ⟨2, ![1, 1024]⟩
abbrev S1024x2304 : Shape := ⟨2, ![1024, 2304]⟩
abbrev S8192x16 : Shape := ⟨2, ![8192, 16]⟩
abbrev S4x8192x1024 : Shape := ⟨3, ![4, 8192, 1024]⟩
abbrev S9x4x1024 : Shape := ⟨3, ![9, 4, 1024]⟩
abbrev S9x4x1x1024 : Shape := ⟨4, ![9, 4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x4x1x1024 : Shape := ⟨4, ![1, 4, 1, 1024]⟩
abbrev S4x1x1024 : Shape := ⟨3, ![4, 1, 1024]⟩
abbrev S32768x2304 : Shape := ⟨2, ![32768, 2304]⟩
abbrev S32768x512 : Shape := ⟨2, ![32768, 512]⟩
abbrev S32768x128 : Shape := ⟨2, ![32768, 128]⟩
abbrev S4x8192x8x64 : Shape := ⟨4, ![4, 8192, 8, 64]⟩
abbrev S8192x1x16 : Shape := ⟨3, ![8192, 1, 16]⟩
abbrev S4x8192x8x32 : Shape := ⟨4, ![4, 8192, 8, 32]⟩
abbrev S4x8192x8x16 : Shape := ⟨4, ![4, 8192, 8, 16]⟩
abbrev S1x8192x1x16 : Shape := ⟨4, ![1, 8192, 1, 16]⟩
abbrev S4x8192x512 : Shape := ⟨3, ![4, 8192, 512]⟩
abbrev S4x512x8192 : Shape := ⟨3, ![4, 512, 8192]⟩
abbrev S4x8192x2x64 : Shape := ⟨4, ![4, 8192, 2, 64]⟩
abbrev S4x8192x2x32 : Shape := ⟨4, ![4, 8192, 2, 32]⟩
abbrev S4x8192x2x16 : Shape := ⟨4, ![4, 8192, 2, 16]⟩
abbrev S4x64x128x128 : Shape := ⟨4, ![4, 64, 128, 128]⟩

abbrev nBuf : Space → Nat
  | .hbm => 236
  | .vmem => 0
  | .smem => 0
  | _ => 0

abbrev hbmTy0_0 (i : Nat) : BufTy := match i % 128 with
  | 0 => ⟨S32768x1024, .f32⟩
  | 1 => ⟨S4x9x1024, .f32⟩
  | 2 => ⟨S1x1024, .f32⟩
  | 3 => ⟨S1024x2304, .bf16⟩
  | 4 => ⟨S8192x16, .f32⟩
  | 5 => ⟨S8192x16, .f32⟩
  | 6 => ⟨S8192x16, .f32⟩
  | 7 => ⟨S8192x16, .f32⟩
  | 8 => ⟨S4x8192x1024, .f32⟩
  | 9 => ⟨S9x4x1024, .f32⟩
  | 10 => ⟨S9x4x1x1024, .f32⟩
  | 11 => ⟨S1024, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S_, .f32⟩
  | 20 => ⟨S4x8192x1, .f32⟩
  | 21 => ⟨S4x8192x1, .f32⟩
  | 22 => ⟨S4x8192x1, .f32⟩
  | 23 => ⟨S4x8192x1024, .f32⟩
  | 24 => ⟨S4x8192x1024, .f32⟩
  | 25 => ⟨S1x1x1024, .f32⟩
  | 26 => ⟨S4x8192x1024, .f32⟩
  | 27 => ⟨S4x8192x1024, .f32⟩
  | 28 => ⟨S1x4x1x1024, .f32⟩
  | 29 => ⟨S4x1x1024, .f32⟩
  | 30 => ⟨S_, .f32⟩
  | 31 => ⟨S4x1x1024, .f32⟩
  | 32 => ⟨S4x1x1024, .f32⟩
  | 33 => ⟨S4x8192x1024, .f32⟩
  | 34 => ⟨S4x8192x1024, .f32⟩
  | 35 => ⟨S1x4x1x1024, .f32⟩
  | 36 => ⟨S4x1x1024, .f32⟩
  | 37 => ⟨S4x8192x1024, .f32⟩
  | 38 => ⟨S4x8192x1024, .f32⟩
  | 39 => ⟨S32768x1024, .f32⟩
  | 40 => ⟨S1024x2304, .f32⟩
  | 41 => ⟨S32768x2304, .f32⟩
  | 42 => ⟨S32768x512, .f32⟩
  | 43 => ⟨S32768x512, .f32⟩
  | 44 => ⟨S32768x512, .f32⟩
  | 45 => ⟨S32768x512, .f32⟩
  | 46 => ⟨S32768x128, .f32⟩
  | 47 => ⟨S32768x128, .f32⟩
  | 48 => ⟨S4x8192x8x64, .f32⟩
  | 49 => ⟨S8192x1x16, .f32⟩
  | 50 => ⟨S8192x1x16, .f32⟩
  | 51 => ⟨S8192x1x16, .f32⟩
  | 52 => ⟨S8192x1x16, .f32⟩
  | 53 => ⟨S4x8192x8x32, .f32⟩
  | 54 => ⟨S4x8192x8x32, .f32⟩
  | 55 => ⟨S4x8192x8x16, .f32⟩
  | 56 => ⟨S4x8192x8x16, .f32⟩
  | 57 => ⟨S1x8192x1x16, .f32⟩
  | 58 => ⟨S4x8192x8x16, .f32⟩
  | 59 => ⟨S4x8192x8x16, .f32⟩
  | 60 => ⟨S1x8192x1x16, .f32⟩
  | 61 => ⟨S4x8192x8x16, .f32⟩
  | 62 => ⟨S4x8192x8x16, .f32⟩
  | 63 => ⟨S4x8192x8x16, .f32⟩
  | 64 => ⟨S1x8192x1x16, .f32⟩
  | 65 => ⟨S4x8192x8x16, .f32⟩
  | 66 => ⟨S4x8192x8x16, .f32⟩
  | 67 => ⟨S1x8192x1x16, .f32⟩
  | 68 => ⟨S4x8192x8x16, .f32⟩
  | 69 => ⟨S4x8192x8x16, .f32⟩
  | 70 => ⟨S4x8192x8x16, .f32⟩
  | 71 => ⟨S4x8192x8x32, .f32⟩
  | 72 => ⟨S4x8192x8x16, .f32⟩
  | 73 => ⟨S4x8192x8x16, .f32⟩
  | 74 => ⟨S1x8192x1x16, .f32⟩
  | 75 => ⟨S4x8192x8x16, .f32⟩
  | 76 => ⟨S4x8192x8x16, .f32⟩
  | 77 => ⟨S1x8192x1x16, .f32⟩
  | 78 => ⟨S4x8192x8x16, .f32⟩
  | 79 => ⟨S4x8192x8x16, .f32⟩
  | 80 => ⟨S4x8192x8x16, .f32⟩
  | 81 => ⟨S1x8192x1x16, .f32⟩
  | 82 => ⟨S4x8192x8x16, .f32⟩
  | 83 => ⟨S4x8192x8x16, .f32⟩
  | 84 => ⟨S1x8192x1x16, .f32⟩
  | 85 => ⟨S4x8192x8x16, .f32⟩
  | 86 => ⟨S4x8192x8x16, .f32⟩
  | 87 => ⟨S4x8192x8x16, .f32⟩
  | 88 => ⟨S4x8192x8x32, .f32⟩
  | 89 => ⟨S4x8192x8x64, .f32⟩
  | 90 => ⟨S32768x512, .f32⟩
  | 91 => ⟨S_, .f32⟩
  | 92 => ⟨S32768x512, .f32⟩
  | 93 => ⟨S32768x512, .f32⟩
  | 94 => ⟨S32768x512, .bf16⟩
  | 95 => ⟨S4x8192x8x64, .f32⟩
  | 96 => ⟨S8192x1x16, .f32⟩
  | 97 => ⟨S8192x1x16, .f32⟩
  | 98 => ⟨S8192x1x16, .f32⟩
  | 99 => ⟨S8192x1x16, .f32⟩
  | 100 => ⟨S4x8192x8x32, .f32⟩
  | 101 => ⟨S4x8192x8x32, .f32⟩
  | 102 => ⟨S4x8192x8x16, .f32⟩
  | 103 => ⟨S4x8192x8x16, .f32⟩
  | 104 => ⟨S1x8192x1x16, .f32⟩
  | 105 => ⟨S4x8192x8x16, .f32⟩
  | 106 => ⟨S4x8192x8x16, .f32⟩
  | 107 => ⟨S1x8192x1x16, .f32⟩
  | 108 => ⟨S4x8192x8x16, .f32⟩
  | 109 => ⟨S4x8192x8x16, .f32⟩
  | 110 => ⟨S4x8192x8x16, .f32⟩
  | 111 => ⟨S1x8192x1x16, .f32⟩
  | 112 => ⟨S4x8192x8x16, .f32⟩
  | 113 => ⟨S4x8192x8x16, .f32⟩
  | 114 => ⟨S1x8192x1x16, .f32⟩
  | 115 => ⟨S4x8192x8x16, .f32⟩
  | 116 => ⟨S4x8192x8x16, .f32⟩
  | 117 => ⟨S4x8192x8x16, .f32⟩
  | 118 => ⟨S4x8192x8x32, .f32⟩
  | 119 => ⟨S4x8192x8x16, .f32⟩
  | 120 => ⟨S4x8192x8x16, .f32⟩
  | 121 => ⟨S1x8192x1x16, .f32⟩
  | 122 => ⟨S4x8192x8x16, .f32⟩
  | 123 => ⟨S4x8192x8x16, .f32⟩
  | 124 => ⟨S1x8192x1x16, .f32⟩
  | 125 => ⟨S4x8192x8x16, .f32⟩
  | 126 => ⟨S4x8192x8x16, .f32⟩
  | 127 => ⟨S4x8192x8x16, .f32⟩
  | _ => ⟨S32768x1024, .f32⟩

abbrev hbmTy0_1 (i : Nat) : BufTy := match i % 128 with
  | 0 => ⟨S1x8192x1x16, .f32⟩
  | 1 => ⟨S4x8192x8x16, .f32⟩
  | 2 => ⟨S4x8192x8x16, .f32⟩
  | 3 => ⟨S1x8192x1x16, .f32⟩
  | 4 => ⟨S4x8192x8x16, .f32⟩
  | 5 => ⟨S4x8192x8x16, .f32⟩
  | 6 => ⟨S4x8192x8x16, .f32⟩
  | 7 => ⟨S4x8192x8x32, .f32⟩
  | 8 => ⟨S4x8192x8x64, .f32⟩
  | 9 => ⟨S32768x512, .f32⟩
  | 10 => ⟨S32768x512, .bf16⟩
  | 11 => ⟨S4x8192x512, .f32⟩
  | 12 => ⟨S4x512x8192, .f32⟩
  | 13 => ⟨S4x512x8192, .bf16⟩
  | 14 => ⟨S4x8192x8x64, .f32⟩
  | 15 => ⟨S8192x1x16, .f32⟩
  | 16 => ⟨S8192x1x16, .f32⟩
  | 17 => ⟨S8192x1x16, .f32⟩
  | 18 => ⟨S8192x1x16, .f32⟩
  | 19 => ⟨S4x8192x8x32, .f32⟩
  | 20 => ⟨S4x8192x8x32, .f32⟩
  | 21 => ⟨S4x8192x8x16, .f32⟩
  | 22 => ⟨S4x8192x8x16, .f32⟩
  | 23 => ⟨S1x8192x1x16, .f32⟩
  | 24 => ⟨S4x8192x8x16, .f32⟩
  | 25 => ⟨S4x8192x8x16, .f32⟩
  | 26 => ⟨S1x8192x1x16, .f32⟩
  | 27 => ⟨S4x8192x8x16, .f32⟩
  | 28 => ⟨S4x8192x8x16, .f32⟩
  | 29 => ⟨S4x8192x8x16, .f32⟩
  | 30 => ⟨S1x8192x1x16, .f32⟩
  | 31 => ⟨S4x8192x8x16, .f32⟩
  | 32 => ⟨S4x8192x8x16, .f32⟩
  | 33 => ⟨S1x8192x1x16, .f32⟩
  | 34 => ⟨S4x8192x8x16, .f32⟩
  | 35 => ⟨S4x8192x8x16, .f32⟩
  | 36 => ⟨S4x8192x8x16, .f32⟩
  | 37 => ⟨S4x8192x8x32, .f32⟩
  | 38 => ⟨S4x8192x8x16, .f32⟩
  | 39 => ⟨S4x8192x8x16, .f32⟩
  | 40 => ⟨S1x8192x1x16, .f32⟩
  | 41 => ⟨S4x8192x8x16, .f32⟩
  | 42 => ⟨S4x8192x8x16, .f32⟩
  | 43 => ⟨S1x8192x1x16, .f32⟩
  | 44 => ⟨S4x8192x8x16, .f32⟩
  | 45 => ⟨S4x8192x8x16, .f32⟩
  | 46 => ⟨S4x8192x8x16, .f32⟩
  | 47 => ⟨S1x8192x1x16, .f32⟩
  | 48 => ⟨S4x8192x8x16, .f32⟩
  | 49 => ⟨S4x8192x8x16, .f32⟩
  | 50 => ⟨S1x8192x1x16, .f32⟩
  | 51 => ⟨S4x8192x8x16, .f32⟩
  | 52 => ⟨S4x8192x8x16, .f32⟩
  | 53 => ⟨S4x8192x8x16, .f32⟩
  | 54 => ⟨S4x8192x8x32, .f32⟩
  | 55 => ⟨S4x8192x8x64, .f32⟩
  | 56 => ⟨S32768x512, .f32⟩
  | 57 => ⟨S_, .f32⟩
  | 58 => ⟨S32768x512, .f32⟩
  | 59 => ⟨S32768x512, .f32⟩
  | 60 => ⟨S32768x512, .bf16⟩
  | 61 => ⟨S4x8192x2x64, .f32⟩
  | 62 => ⟨S8192x1x16, .f32⟩
  | 63 => ⟨S8192x1x16, .f32⟩
  | 64 => ⟨S8192x1x16, .f32⟩
  | 65 => ⟨S8192x1x16, .f32⟩
  | 66 => ⟨S4x8192x2x32, .f32⟩
  | 67 => ⟨S4x8192x2x32, .f32⟩
  | 68 => ⟨S4x8192x2x16, .f32⟩
  | 69 => ⟨S4x8192x2x16, .f32⟩
  | 70 => ⟨S1x8192x1x16, .f32⟩
  | 71 => ⟨S4x8192x2x16, .f32⟩
  | 72 => ⟨S4x8192x2x16, .f32⟩
  | 73 => ⟨S1x8192x1x16, .f32⟩
  | 74 => ⟨S4x8192x2x16, .f32⟩
  | 75 => ⟨S4x8192x2x16, .f32⟩
  | 76 => ⟨S4x8192x2x16, .f32⟩
  | 77 => ⟨S1x8192x1x16, .f32⟩
  | 78 => ⟨S4x8192x2x16, .f32⟩
  | 79 => ⟨S4x8192x2x16, .f32⟩
  | 80 => ⟨S1x8192x1x16, .f32⟩
  | 81 => ⟨S4x8192x2x16, .f32⟩
  | 82 => ⟨S4x8192x2x16, .f32⟩
  | 83 => ⟨S4x8192x2x16, .f32⟩
  | 84 => ⟨S4x8192x2x32, .f32⟩
  | 85 => ⟨S4x8192x2x16, .f32⟩
  | 86 => ⟨S4x8192x2x16, .f32⟩
  | 87 => ⟨S1x8192x1x16, .f32⟩
  | 88 => ⟨S4x8192x2x16, .f32⟩
  | 89 => ⟨S4x8192x2x16, .f32⟩
  | 90 => ⟨S1x8192x1x16, .f32⟩
  | 91 => ⟨S4x8192x2x16, .f32⟩
  | 92 => ⟨S4x8192x2x16, .f32⟩
  | 93 => ⟨S4x8192x2x16, .f32⟩
  | 94 => ⟨S1x8192x1x16, .f32⟩
  | 95 => ⟨S4x8192x2x16, .f32⟩
  | 96 => ⟨S4x8192x2x16, .f32⟩
  | 97 => ⟨S1x8192x1x16, .f32⟩
  | 98 => ⟨S4x8192x2x16, .f32⟩
  | 99 => ⟨S4x8192x2x16, .f32⟩
  | 100 => ⟨S4x8192x2x16, .f32⟩
  | 101 => ⟨S4x8192x2x32, .f32⟩
  | 102 => ⟨S4x8192x2x64, .f32⟩
  | 103 => ⟨S32768x128, .f32⟩
  | 104 => ⟨S32768x128, .bf16⟩
  | 105 => ⟨S4x64x128x128, .f32⟩
  | 106 => ⟨S4x64x128x128, .f32⟩
  | 107 => ⟨S4x64x128x128, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_3 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_cst_4 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩

abbrev nD : Nat := 1
abbrev τ : Topo := Topo.v7x

variable {F : FTy → Type} [FloatOps F]
-- ==== Proof.Attn.Tile.lean ====
module

public import proofs.«01_k».proof.Proof.Gen.KernelIdeal.Loops
public import Idealize.ShloMosaic.Lib.VecWindow
public import Idealize.ShloMosaic.Lib.Pointwise.Reshape

@[expose] public section

set_option maxRecDepth 16384

noncomputable section

namespace Cert.Attn

open Idealize.ShloMosaic Idealize.ShloMosaic.TcCoe Idealize.ShloMosaic.Tactic
open Idealize.SL.Sem Cert.KernelIdeal Cert.KernelIdeal.Gen

variable {F : FTy → Type} [FloatOps F]

/-! # One trip of the attention's loop

A trip handles three tiles of 128 queries: it scores the tile three ahead of each one and attends with the
scores an earlier step left in a scratch buffer. -/

/-- 128 rows from a tile's offset lie inside the sequence. -/
theorem tile_inb (t : Fin 64) : ∀ a : Fin 3, (![0, t.val * 128, 0] : Fin 3 → ℕ) a + S1x128x128.size a ≤ S1x8192x128.size a := by
  intro a
  have := t.isLt
  fin_cases a
  · show 0 + 1 ≤ 1; omega
  · show t.val * 128 + 128 ≤ 8192; omega
  · show 0 + 128 ≤ 128; omega

/-- The tile a step asks for: past the last one, the last one again. -/
def tileNo (t : ℕ) : Fin 64 := ⟨min t 63, by omega⟩

/-- The 128 queries of tile `t`. -/
def tileAt (q : Vec F S1x8192x128 .bf16) (t : ℕ) : Vec F S1x128x128 .bf16 :=
  VecWindow.window q ![0, (tileNo t).val * 128, 0] S1x128x128.size (tile_inb (tileNo t))

/-- The scores of tile `t`'s queries, of both halves, against every key. -/
def scores (mask : IVec S1x128 1) (z : F .bf16) (q : Vec F S1x8192x128 .bf16) (K : Vec F S8448x128 .bf16) (t : ℕ) :
    FVec F S8448x256 .f32 :=
  k0_pay7 mask z (tileAt q t) K

/-- A query's largest score. -/
abbrev top (s : FVec F S8448x256 .f32) : FVec F S1x256 .f32 := k0_pay9 s

/-- What a tile's scores become: attention by both halves, the difference normed. -/
abbrev attend (lam : FVec F S1x1 .f32) (V : Vec F S144x8448 .bf16) (g : Vec F S1x128 .f32) (s : FVec F S8448x256 .f32) :
    FVec F S1x128x128 .bf16 :=
  k0_pay10 lam (top s) s V g

/-- The store of a tile. -/
def tilePiece (t : Fin 64) (w : FVec F S1x128x128 .bf16) : View.Piece (Elt F) S1x8192x128 .bf16 :=
  ⟨Rect.unit (s := S1x8192x128) ![0, t.val * 128, 0] S1x128x128.size (tile_inb t), w⟩

/-! The kernel's text repeats these expressions; the copies are the same functions. -/

section Copies

variable {mask : IVec S1x128 1} {z : F .bf16} {q : Vec F S1x8192x128 .bf16} {K : Vec F S8448x128 .bf16} {t : ℕ}
  {a : Vec F S1x128x128 .bf16} {b : Vec F S8448x128 .bf16}

/-- The maxima the trip carries on for its first buffer. -/
theorem top_a (ha : a = tileAt q t) (hb : b = K) : k0_pay9 (k0_pay7 mask z a b) = top (scores mask z q K t) := by
  subst ha hb; rfl

/-- The maxima it carries on for its second buffer. -/
theorem top_b (ha : a = tileAt q t) (hb : b = K) : k0_pay13 mask z a b = top (scores mask z q K t) := by
  subst ha hb; rfl

/-- The maxima of the third buffer. -/
theorem top_c (ha : a = tileAt q t) (hb : b = K) : k0_pay4 mask z a b = top (scores mask z q K t) := by
  subst ha hb; rfl

/-- The scores stored to the first buffer. -/
theorem scores_a (ha : a = tileAt q t) (hb : b = K) : k0_pay8 mask z a b = scores mask z q K t := by
  subst ha hb; unfold k0_pay8; exact shapeCast_id _ _

/-- The scores stored to the second buffer. -/
theorem scores_b (ha : a = tileAt q t) (hb : b = K) : k0_pay12 mask z a b = scores mask z q K t := by
  subst ha hb; unfold k0_pay12; exact shapeCast_id _ _

/-- The scores stored to the third buffer. -/
theorem scores_c (ha : a = tileAt q t) (hb : b = K) : k0_pay3 mask z a b = scores mask z q K t := by
  subst ha hb; unfold k0_pay3; exact shapeCast_id _ _

variable {lam : FVec F S1x1 .f32} {m : FVec F S1x256 .f32} {s s' : FVec F S8448x256 .f32} {V v : Vec F S144x8448 .bf16}
  {g w : Vec F S1x128 .f32}

/-- The tile attended from the first buffer. -/
theorem attend_a (hm : m = top s) (hs : s' = s) (hv : v = V) (hw : w = g) : k0_pay6 (k0_pay5 lam m s' v) w = attend lam V g s := by
  subst hm hs hv hw; rfl

/-- The tile attended from the second buffer. -/
theorem attend_b (hm : m = top s) (hs : s' = s) (hv : v = V) (hw : w = g) : k0_pay10 lam m s' v w = attend lam V g s := by
  subst hm hs hv hw; rfl

/-- The tile attended from the third buffer. -/
theorem attend_c (hm : m = top s) (hs : s' = s) (hv : v = V) (hw : w = g) : k0_pay31 (k0_pay14 lam m s' v) w = attend lam V g s := by
  subst hm hs hv hw; rfl

end Copies

/-- Stores at equal offsets are equal. -/
theorem piece_eq {off : Fin 3 → ℕ} {inb : ∀ a : Fin 3, off a + S1x128x128.size a ≤ S1x8192x128.size a} {w w' : FVec F S1x128x128 .bf16}
    (t : Fin 64) (h : off = ![0, t.val * 128, 0]) (hw : w = w') :
    (⟨Rect.unit (s := S1x8192x128) off S1x128x128.size inb, w⟩ : View.Piece (Elt F) S1x8192x128 .bf16) = tilePiece t w' := by
  subst h hw; rfl

/-- The rows the trip's first store and loads start from. -/
theorem off1_eq : ∀ (k : Fin k0_t1_loop.trips), k0_off2 k = ![0, (tileNo (3 * k.val)).val * 128, 0]
    ∧ k0_off1 k 1#32 = ![0, (tileNo (3 * k.val + 1)).val * 128, 0]
    ∧ k0_off1 k 2#32 = ![0, (tileNo (3 * k.val + 2)).val * 128, 0]
    ∧ k0_off1 k 3#32 = ![0, (tileNo (3 * k.val + 3)).val * 128, 0]
    ∧ k0_off3 k = ![0, (tileNo (3 * k.val + 4)).val * 128, 0] := by
  decide +kernel

end Cert.Attn

end
-- ==== Proof.Attn.Trip.lean ====
module

public import proofs.«01_k».proof.Proof.Attn.Tile

@[expose] public section

set_option maxRecDepth 16384

noncomputable section

namespace Cert.Attn

open Idealize.ShloMosaic Idealize.ShloMosaic.TcCoe Idealize.ShloMosaic.Tactic
open Idealize.SL.Sem Cert.KernelIdeal Cert.KernelIdeal.Gen

variable {F : FTy → Type} [FloatOps F]

variable (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x256x128 .bf16) (harg4 : arg4.IsWhole) (arg5 : Memref sig .tc .vmem S1x128x8192 .bf16) (harg5 : arg5.IsWhole) (arg6 : Memref sig .tc .vmem S1x128x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x8192x128 .bf16) (harg9 : arg9.IsWhole) (arg10 : Memref sig .tc .vmem S8448x128 .bf16) (harg10 : arg10.IsWhole) (arg11 : Memref sig .tc .vmem S144x8448 .bf16) (harg11 : arg11.IsWhole) (arg12 : Memref sig .tc .vmem S8448x256 .f32) (harg12 : arg12.IsWhole) (arg13 : Memref sig .tc .vmem S8448x256 .f32) (harg13 : arg13.IsWhole) (arg14 : Memref sig .tc .vmem S8448x256 .f32) (harg14 : arg14.IsWhole) (v39 : FVec F S1x1 .f32) (v42 : IVec S1x128 1) (v62 : FVec F S1x256 .f32) (v66 : FVec F S128x128 .bf16) (cst_36 : F .bf16) (v67 : IVec S1x128 1) (cst_44 : F .bf16) (X_arg2 : BufTy.Contents (Elt F) arg2.view.ty) (X_arg8 : BufTy.Contents (Elt F) arg8.view.ty) (X_arg10 : BufTy.Contents (Elt F) arg10.view.ty) (X_arg11 : BufTy.Contents (Elt F) arg11.view.ty)
set_option maxHeartbeats 1000000 in
/-- A trip's results: the carried maxima are those of the tiles it scored, and its stores are three tiles of
    the output and the two score buffers whole. -/
theorem trip_eq (k : Fin k0_t1_loop.trips) (acc : FVec F S1x256 .f32 × FVec F S1x256 .f32) (f_arg9 : BufTy.Contents (Elt F) arg9.view.ty) (f_arg12 : BufTy.Contents (Elt F) arg12.view.ty) (f_arg13 : BufTy.Contents (Elt F) arg13.view.ty) (f_arg14 : BufTy.Contents (Elt F) arg14.view.ty)
    (q : Vec F S1x8192x128 .bf16) (hq : arg2.view.read (Elt F) X_arg2 = q) (g : Vec F S1x128 .f32) (hg : arg8.view.read (Elt F) X_arg8 = g)
    (K : Vec F S8448x128 .bf16) (hK : arg10.view.read (Elt F) X_arg10 = K) (V : Vec F S144x8448 .bf16) (hV : arg11.view.read (Elt F) X_arg11 = V)
    (h0 : acc.1 = top (scores v42 cst_44 q K (3 * k.val))) (h1 : acc.2 = top (scores v42 cst_44 q K (3 * k.val + 1)))
    (s0 : arg12.view.read (Elt F) f_arg12 = scores v42 cst_44 q K (3 * k.val)) (s1 : arg13.view.read (Elt F) f_arg13 = scores v42 cst_44 q K (3 * k.val + 1)) :
   ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 k).1 acc f_arg9 f_arg12 f_arg13 f_arg14)
      = (top (scores v42 cst_44 q K (3 * (k.val + 1))), top (scores v42 cst_44 q K (3 * (k.val + 1) + 1)))
   ∧ ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 k).2.1 acc f_arg9 f_arg12 f_arg13 f_arg14)
      = [tilePiece (tileNo (3 * k.val + 2)) (attend v39 V g (scores v42 cst_44 q K (3 * k.val + 2))),
         tilePiece (tileNo (3 * k.val + 1)) (attend v39 V g (scores v42 cst_44 q K (3 * k.val + 1))),
         tilePiece (tileNo (3 * k.val)) (attend v39 V g (scores v42 cst_44 q K (3 * k.val)))]
   ∧ ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 k).2.2.1 acc f_arg9 f_arg12 f_arg13 f_arg14)
      = [⟨Rect.unit ![0, 0] S8448x256.size inb_S8448x256_S8448x256_0_0, scores v42 cst_44 q K (3 * (k.val + 1))⟩]
   ∧ ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 k).2.2.2.1 acc f_arg9 f_arg12 f_arg13 f_arg14)
      = [⟨Rect.unit ![0, 0] S8448x256.size inb_S8448x256_S8448x256_0_0, scores v42 cst_44 q K (3 * (k.val + 1) + 1)⟩] := by
  have rq : ∀ {t : ℕ} {off : Fin 3 → ℕ} {inb : ∀ a : Fin 3, off a + S1x128x128.size a ≤ S1x8192x128.size a} (h : off = ![0, (tileNo t).val * 128, 0]),
      arg2.view.readAt (Elt F) (Rect.unit (s := S1x8192x128) off S1x128x128.size inb).toLoadRect X_arg2 = tileAt q t := by
    intro t off inb h
    rw [View.readAt_unit _ _ inb h (tile_inb _), hq]; rfl
  have rg : arg8.view.readAt (Elt F) (Rect.unit (s := S1x128) ![0, 0] S1x128.size inb_S1x128_S1x128_0_0).toLoadRect X_arg8 = g := by
    rw [View.readAt_full, hg]
  have rK : arg10.view.readAt (Elt F) (Rect.unit (s := S8448x128) ![0, 0] S8448x128.size inb_S8448x128_S8448x128_0_0).toLoadRect X_arg10 = K := by
    rw [View.readAt_full, hK]
  have rV : arg11.view.readAt (Elt F) (Rect.unit (s := S144x8448) ![0, 0] S144x8448.size inb_S144x8448_S144x8448_0_0).toLoadRect X_arg11 = V := by
    rw [View.readAt_full, hV]
  have r0 : arg12.view.readAt (Elt F) (Rect.unit (s := S8448x256) ![0, 0] S8448x256.size inb_S8448x256_S8448x256_0_0).toLoadRect f_arg12 = scores v42 cst_44 q K (3 * k.val) := by
    rw [View.readAt_full, s0]
  have r1 : arg13.view.readAt (Elt F) (Rect.unit (s := S8448x256) ![0, 0] S8448x256.size inb_S8448x256_S8448x256_0_0).toLoadRect f_arg13 = scores v42 cst_44 q K (3 * k.val + 1) := by
    rw [View.readAt_full, s1]
  obtain ⟨o0, o1, o2, o3, o4⟩ := off1_eq k
  rw [show 3 * (k.val + 1) = 3 * k.val + 3 from by omega, show 3 * k.val + 3 + 1 = 3 * k.val + 4 from rfl]
  unfold trip_k0_t1
  dsimp only
  sl_unfold_words
  refine ⟨congrArg₂ Prod.mk (top_a (rq o3) rK) (top_b (rq o4) rK), ?_, ?_, ?_⟩
  · refine congrArg₂ List.cons (piece_eq _ o2 (attend_c (top_c (rq o2) rK) ?_ rV rg))
      (congrArg₂ List.cons (piece_eq _ o1 (attend_b h1 r1 rV rg))
        (congrArg₂ List.cons (piece_eq _ o0 (attend_a h0 r0 rV rg)) rfl))
    exact (View.readCov_full _ _ _ _ _).trans (scores_c (rq o2) rK)
  · exact congrArg (fun w => [(⟨Rect.unit ![0, 0] S8448x256.size inb_S8448x256_S8448x256_0_0, w⟩ : View.Piece (Elt F) S8448x256 .f32)]) (scores_a (rq o3) rK)
  · exact congrArg (fun w => [(⟨Rect.unit ![0, 0] S8448x256.size inb_S8448x256_S8448x256_0_0, w⟩ : View.Piece (Elt F) S8448x256 .f32)]) (scores_b (rq o4) rK)

end Cert.Attn

end
-- ==== Proof.Attn.State.lean ====
module

public import proofs.«01_k».proof.Proof.Attn.Trip

@[expose] public section

set_option maxRecDepth 16384

noncomputable section

namespace Cert.Attn

open Idealize.ShloMosaic Idealize.ShloMosaic.TcCoe Idealize.ShloMosaic.Tactic
open Idealize.SL.Sem Cert.KernelIdeal Cert.KernelIdeal.Gen

variable {F : FTy → Type} [FloatOps F]

/-! # What the loop has stored before a trip -/

/-- The stores of the tiles that `k` trips attend, the last first. -/
def stores (out : ℕ → FVec F S1x128x128 .bf16) : ℕ → List (View.Piece (Elt F) S1x8192x128 .bf16)
  | 0 => []
  | k + 1 => [tilePiece (tileNo (3 * k + 2)) (out (3 * k + 2)), tilePiece (tileNo (3 * k + 1)) (out (3 * k + 1)),
      tilePiece (tileNo (3 * k)) (out (3 * k))] ++ stores out k

/-- What holds before trip `k`: the carried maxima and the two score buffers are those of tiles `3k` and `3k + 1`,
    and the output holds the stores of the tiles before. -/
def Holds (arg12 arg13 : Memref sig .tc .vmem S8448x256 .f32) (lam : FVec F S1x1 .f32) (mask : IVec S1x128 1) (z : F .bf16)
    (G_arg12 : BufTy.Contents (Elt F) arg12.view.ty) (G_arg13 : BufTy.Contents (Elt F) arg13.view.ty)
    (q : Vec F S1x8192x128 .bf16) (g : Vec F S1x128 .f32) (K : Vec F S8448x128 .bf16) (V : Vec F S144x8448 .bf16) (k : ℕ)
    (s : (FVec F S1x256 .f32 × FVec F S1x256 .f32) × List (View.Piece (Elt F) S1x8192x128 .bf16) × List (View.Piece (Elt F) S8448x256 .f32) × List (View.Piece (Elt F) S8448x256 .f32) × List (View.Piece (Elt F) S8448x256 .f32)) : Prop :=
  s.1 = (top (scores mask z q K (3 * k)), top (scores mask z q K (3 * k + 1)))
  ∧ arg12.view.read (Elt F) (arg12.view.writes (Elt F) G_arg12 s.2.2.1) = scores mask z q K (3 * k)
  ∧ arg13.view.read (Elt F) (arg13.view.writes (Elt F) G_arg13 s.2.2.2.1) = scores mask z q K (3 * k + 1)
  ∧ s.2.1 = stores (fun t => attend lam V g (scores mask z q K t)) k

variable (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x256x128 .bf16) (harg4 : arg4.IsWhole) (arg5 : Memref sig .tc .vmem S1x128x8192 .bf16) (harg5 : arg5.IsWhole) (arg6 : Memref sig .tc .vmem S1x128x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x8192x128 .bf16) (harg9 : arg9.IsWhole) (arg10 : Memref sig .tc .vmem S8448x128 .bf16) (harg10 : arg10.IsWhole) (arg11 : Memref sig .tc .vmem S144x8448 .bf16) (harg11 : arg11.IsWhole) (arg12 : Memref sig .tc .vmem S8448x256 .f32) (harg12 : arg12.IsWhole) (arg13 : Memref sig .tc .vmem S8448x256 .f32) (harg13 : arg13.IsWhole) (arg14 : Memref sig .tc .vmem S8448x256 .f32) (harg14 : arg14.IsWhole) (v39 : FVec F S1x1 .f32) (v42 : IVec S1x128 1) (v62 : FVec F S1x256 .f32) (v66 : FVec F S128x128 .bf16) (cst_36 : F .bf16) (v67 : IVec S1x128 1) (cst_44 : F .bf16) (X_arg2 : BufTy.Contents (Elt F) arg2.view.ty) (X_arg8 : BufTy.Contents (Elt F) arg8.view.ty) (X_arg10 : BufTy.Contents (Elt F) arg10.view.ty) (X_arg11 : BufTy.Contents (Elt F) arg11.view.ty)
/-- Before trip `k` the carried maxima and the two score buffers are those of tiles `3k` and `3k + 1`, and the
    output holds the stores of the tiles before. -/
theorem state_eq (G_arg9 : BufTy.Contents (Elt F) arg9.view.ty) (G_arg12 : BufTy.Contents (Elt F) arg12.view.ty) (G_arg13 : BufTy.Contents (Elt F) arg13.view.ty) (G_arg14 : BufTy.Contents (Elt F) arg14.view.ty) (init : FVec F S1x256 .f32 × FVec F S1x256 .f32)
    (q : Vec F S1x8192x128 .bf16) (hq : arg2.view.read (Elt F) X_arg2 = q) (g : Vec F S1x128 .f32) (hg : arg8.view.read (Elt F) X_arg8 = g)
    (K : Vec F S8448x128 .bf16) (hK : arg10.view.read (Elt F) X_arg10 = K) (V : Vec F S144x8448 .bf16) (hV : arg11.view.read (Elt F) X_arg11 = V)
    (h0 : init.1 = top (scores v42 cst_44 q K 0)) (h1 : init.2 = top (scores v42 cst_44 q K 1))
    (s0 : arg12.view.read (Elt F) G_arg12 = scores v42 cst_44 q K 0) (s1 : arg13.view.read (Elt F) G_arg13 = scores v42 cst_44 q K 1)
    (k : ℕ) (hk : k ≤ k0_t1_loop.trips) :
    Holds arg12 arg13 v39 v42 cst_44 G_arg12 G_arg13 q g K V k
      (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 G_arg9 G_arg12 G_arg13 G_arg14 init k) := by
  induction k with
  | zero =>
    obtain ⟨a, b⟩ := init
    dsimp only at h0 h1
    subst h0 h1
    refine ⟨?_, s0, s1, rfl⟩
    rw [Nat.mul_zero]
    rfl
  | succ n ih =>
    obtain ⟨c0, c12, c13, c9⟩ := ih (by omega)
    have e0 := congrArg Prod.fst c0
    have e1 := congrArg Prod.snd c0
    dsimp only at e0 e1
    have hst := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 G_arg9 G_arg12 G_arg13 G_arg14 init ⟨n, by omega⟩
    have ht := fun f9 f14 => trip_eq (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 ⟨n, by omega⟩ _ f9 _ _ f14 q hq g hg K hK V hV
      e0 e1 c12 c13
    obtain ⟨t0, t9, t12, t13⟩ := ht _ _
    refine (congrArg (Holds arg12 arg13 v39 v42 cst_44 G_arg12 G_arg13 q g K V (n + 1)) hst).mpr ?_
    refine ⟨?_, ?_, ?_, ?_⟩
    · exact t0
    · refine (congrArg (fun L => arg12.view.read (Elt F) (arg12.view.writes (Elt F) G_arg12 (L ++ _))) t12).trans ?_
      exact View.read_writes_full _ _ _ _ _
    · refine (congrArg (fun L => arg13.view.read (Elt F) (arg13.view.writes (Elt F) G_arg13 (L ++ _))) t13).trans ?_
      exact View.read_writes_full _ _ _ _ _
    · exact congrArg₂ (· ++ ·) t9 c9

end Cert.Attn

end
-- ==== Proof.Attn.Target.lean ====
module

public import proofs.«01_k».proof.Proof.Attn.State
public import Idealize.ShloMosaic.Lib.ValueIdxCore

@[expose] public section

set_option maxRecDepth 16384

noncomputable section

namespace Cert.Attn

open Idealize.ShloMosaic Idealize.ShloMosaic.TcCoe Idealize.ShloMosaic.Tactic
open Idealize.SL.Sem Cert.KernelIdeal Cert.KernelIdeal.Gen

variable {F : FTy → Type} [FloatOps F]

/-! # What the body of the attention leaves, as a function of its input blocks -/

/-- All keys: the context's 256, then the sequence's. -/
def keys (k : Vec F S1x8192x128 .bf16) (kc : Vec F S1x256x128 .bf16) : Vec F S8448x128 .bf16 := fun i =>
  if h : (i 0).val < 256 then k0_pay15 kc (ix2 ⟨(i 0).val, h⟩ (i 1))
  else k0_pay16 k (ix2 ⟨(i 0).val - 256, by have : (i 0).val < 8448 := (i 0).isLt; omega⟩ (i 1))

/-- All values, transposed, over sixteen rows of ones. -/
def vals (v : Vec F S1x128x8192 .bf16) (vc : Vec F S1x128x256 .bf16) : Vec F S144x8448 .bf16 := fun i =>
  if h : (i 0).val < 128 then
    if h' : (i 1).val < 256 then k0_pay17 vc (ix2 ⟨(i 0).val, h⟩ ⟨(i 1).val, h'⟩)
    else k0_pay18 v (ix2 ⟨(i 0).val, h⟩ ⟨(i 1).val - 256, by have : (i 1).val < 8448 := (i 1).isLt; omega⟩)
  else k0_pay19 (ix2 ⟨(i 0).val - 128, by have : (i 0).val < 144 := (i 0).isLt; omega⟩ (i 1))

/-- The zero the masked halves hold. -/
def zero16 : F .bf16 := Scalar.ofBits .bf16 0x0000#16

/-- The weight of the second attention, from the four vectors. -/
def lamOf (l : Vec F S4x64 .f32) : FVec F S1x1 .f32 := k0_pay21 l (k0_pay20 l)

/-- The tiles put together. -/
def assemble (out : ℕ → FVec F S1x128x128 .bf16) : Vec F S1x8192x128 .bf16 := fun i =>
  out ((i 1).val / 128) (ix3 (n0 := 1) 0 ⟨(i 1).val % 128, Nat.mod_lt _ (by omega)⟩ (i 2))

/-- What the body leaves in its output block. -/
def target (x0 x1 : Vec F S1x8192x128 .bf16) (x2 : Vec F S1x256x128 .bf16) (x3 : Vec F S1x128x8192 .bf16)
    (x4 : Vec F S1x128x256 .bf16) (x5 : Vec F S4x64 .f32) (x6 : Vec F S1x128 .f32) : Vec F S1x8192x128 .bf16 :=
  assemble fun t => attend (lamOf x5) (vals x3 x4) x6 (scores k0_pay22 zero16 x0 (keys x1 x2) t)

section Buffers

variable {sig : RefSig} {κ : Kind} {sp : Space} {e : EltTy} {Val : EltTy → Type}

/-- A buffer written in two runs of rows reads as those. -/
theorem read_keys (v : View sig κ sp S8448x128 .bf16) (f : v.ty.Contents (Elt F)) (k : Vec F S1x8192x128 .bf16) (kc : Vec F S1x256x128 .bf16) :
    v.read (Elt F) (v.writes (Elt F) f
      [⟨Rect.unit (s := S8448x128) ![256, 0] S8192x128.size inb_S8448x128_S8192x128_256_0, k0_pay16 k⟩,
       ⟨Rect.unit (s := S8448x128) ![0, 0] S256x128.size inb_S8448x128_S256x128_0_0, k0_pay15 kc⟩]) = keys k kc := by
  funext y
  have hy0 : (y 0).val < 8448 := (y 0).isLt
  unfold keys
  split
  next h =>
    rw [View.read_writes_cons_unit_of_not_mem v f _ _ _ y rfl 0 (Or.inl h)]
    exact View.read_writes_cons_unit_of_mem v f _ _ _ y (ix2 (n0 := 256) (n1 := 128) ⟨(y 0).val, h⟩ (y 1)) rfl (fun a => by
      match a with
      | ⟨0, _⟩ => exact (Nat.zero_add _).symm
      | ⟨1, _⟩ => exact (Nat.zero_add _).symm)
  next h =>
    exact View.read_writes_cons_unit_of_mem v f _ _ _ y (ix2 (n0 := 8192) (n1 := 128) ⟨(y 0).val - 256, by omega⟩ (y 1)) rfl (fun a => by
      match a with
      | ⟨0, _⟩ => show (y 0).val = 256 + ((y 0).val - 256); omega
      | ⟨1, _⟩ => exact (Nat.zero_add _).symm)

/-- The values' buffer likewise: two runs of columns over the rows of ones. -/
theorem read_vals (v : View sig κ sp S144x8448 .bf16) (f : v.ty.Contents (Elt F)) (x : Vec F S1x128x8192 .bf16) (xc : Vec F S1x128x256 .bf16) :
    v.read (Elt F) (v.writes (Elt F) f
      [⟨Rect.unit (s := S144x8448) ![128, 0] S16x8448.size inb_S144x8448_S16x8448_128_0, k0_pay19 (F := F)⟩,
       ⟨Rect.unit (s := S144x8448) ![0, 256] S128x8192.size inb_S144x8448_S128x8192_0_256, k0_pay18 x⟩,
       ⟨Rect.unit (s := S144x8448) ![0, 0] S128x256.size inb_S144x8448_S128x256_0_0, k0_pay17 xc⟩]) = vals x xc := by
  funext y
  have hy0 : (y 0).val < 144 := (y 0).isLt
  have hy1 : (y 1).val < 8448 := (y 1).isLt
  unfold vals
  split
  next h =>
    rw [View.read_writes_cons_unit_of_not_mem v f _ _ _ y rfl 0 (Or.inl h)]
    split
    next h' =>
      rw [View.read_writes_cons_unit_of_not_mem v f _ _ _ y rfl 1 (Or.inl h')]
      exact View.read_writes_cons_unit_of_mem v f _ _ _ y (ix2 (n0 := 128) (n1 := 256) ⟨(y 0).val, h⟩ ⟨(y 1).val, h'⟩) rfl (fun a => by
        match a with
        | ⟨0, _⟩ => exact (Nat.zero_add _).symm
        | ⟨1, _⟩ => exact (Nat.zero_add _).symm)
    next h' =>
      exact View.read_writes_cons_unit_of_mem v f _ _ _ y (ix2 (n0 := 128) (n1 := 8192) ⟨(y 0).val, h⟩ ⟨(y 1).val - 256, by omega⟩) rfl (fun a => by
        match a with
        | ⟨0, _⟩ => exact (Nat.zero_add _).symm
        | ⟨1, _⟩ => show (y 1).val = 256 + ((y 1).val - 256); omega)
  next h =>
    exact View.read_writes_cons_unit_of_mem v f _ _ _ y (ix2 (n0 := 16) (n1 := 8448) ⟨(y 0).val - 128, by omega⟩ (y 1)) rfl (fun a => by
      match a with
      | ⟨0, _⟩ => show (y 0).val = 128 + ((y 0).val - 128); omega
      | ⟨1, _⟩ => exact (Nat.zero_add _).symm)

/-- Every store of the first `k` trips is a tile's, in its place. -/
theorem of_mem_stores (out : ℕ → FVec F S1x128x128 .bf16) (k : ℕ) (hk : k ≤ 21) (p : View.Piece (Elt F) S1x8192x128 .bf16)
    (hp : p ∈ stores out k) : ∃ t : ℕ, t < 63 ∧ p = tilePiece (tileNo t) (out t) := by
  induction k with
  | zero => exact absurd hp List.not_mem_nil
  | succ n ih =>
    rcases List.mem_append.mp hp with h | h
    · rcases List.mem_cons.mp h with h | h
      · exact ⟨3 * n + 2, by omega, h⟩
      rcases List.mem_cons.mp h with h | h
      · exact ⟨3 * n + 1, by omega, h⟩
      · exact ⟨3 * n, by omega, List.mem_singleton.mp h⟩
    · exact ih (by omega) h

/-- Each of the first `3k` tiles is among them. -/
theorem mem_stores (out : ℕ → FVec F S1x128x128 .bf16) (k : ℕ) (t : ℕ) (ht : t < 3 * k) :
    tilePiece (tileNo t) (out t) ∈ stores out k := by
  induction k with
  | zero => omega
  | succ n ih =>
    by_cases h : t < 3 * n
    · exact List.mem_append_right _ (ih h)
    · refine List.mem_append_left _ ?_
      obtain h | h | h : t = 3 * n + 2 ∨ t = 3 * n + 1 ∨ t = 3 * n := by omega
      · subst h; exact List.mem_cons_self
      · subst h; exact List.mem_cons_of_mem _ List.mem_cons_self
      · subst h; exact List.mem_cons_of_mem _ (List.mem_cons_of_mem _ List.mem_cons_self)

/-- The output block after the loop and the last store. -/
theorem read_stores (v : View sig κ sp S1x8192x128 .bf16) (f : v.ty.Contents (Elt F)) (out : ℕ → FVec F S1x128x128 .bf16) :
    v.read (Elt F) (v.writes (Elt F) f (tilePiece (tileNo 63) (out 63) :: stores out 21)) = assemble out := by
  funext y
  have hy : (y 1).val < 8192 := (y 1).isLt
  have hy0 : (y 0).val < 1 := (y 0).isLt
  refine View.read_writes_apply_of_pieces v f (assemble out) _ (fun p hp x => ?_) y ?_
  · obtain ⟨t, ht, rfl⟩ : ∃ t : ℕ, t < 64 ∧ p = tilePiece (tileNo t) (out t) := by
      rcases List.mem_cons.mp hp with h | h
      · exact ⟨63, by omega, h⟩
      · obtain ⟨t, ht, e⟩ := of_mem_stores out 21 le_rfl p h
        exact ⟨t, by omega, e⟩
    have hx1 : (x 1).val < 128 := (x 1).isLt
    have hx0 : (x 0).val < 1 := (x 0).isLt
    have e1 : (((tilePiece (tileNo t) (out t)).1.emb x) 1).val = t * 128 + (x 1).val := by
      show (min t 63) * 128 + 1 * (x 1).val = _
      omega
    unfold assemble
    have hd : (((tilePiece (tileNo t) (out t)).1.emb x) 1).val / 128 = t := by rw [e1]; omega
    have hm : (((tilePiece (tileNo t) (out t)).1.emb x) 1).val % 128 = (x 1).val := by rw [e1]; omega
    rw [hd]
    refine congrArg (out t) (funext fun a => Fin.ext ?_)
    match a with
    | ⟨0, _⟩ => show (x 0).val = 0; omega
    | ⟨1, _⟩ => exact hm.symm
    | ⟨2, _⟩ => show (x 2).val = 0 + 1 * (x 2).val; omega
  · refine ⟨tilePiece (tileNo ((y 1).val / 128)) (out ((y 1).val / 128)), ?_, ?_⟩
    · by_cases h : (y 1).val / 128 < 63
      · exact List.mem_cons_of_mem _ (mem_stores out 21 _ (by omega))
      · rw [show (y 1).val / 128 = 63 from by omega]
        exact List.mem_cons_self
    · refine (Rect.mem_set_unit (inb := tile_inb _)).mpr ?_
      intro a
      match a with
      | ⟨0, _⟩ => exact ⟨Nat.zero_le _, by show (y 0).val < 0 + 1; omega⟩
      | ⟨1, _⟩ =>
        constructor
        · show min ((y 1).val / 128) 63 * 128 ≤ (y 1).val; omega
        · show (y 1).val < min ((y 1).val / 128) 63 * 128 + 128; omega
      | ⟨2, _⟩ => exact ⟨Nat.zero_le _, by have : (y 2).val < 128 := (y 2).isLt; show (y 2).val < 0 + 128; omega⟩

end Buffers

/-! The first two tiles are scored before the loop and the last one attended after it: the same functions again. -/

section Copies

variable {q : Vec F S1x8192x128 .bf16} {K : Vec F S8448x128 .bf16} {t : ℕ} {a : Vec F S1x128x128 .bf16} {b : Vec F S8448x128 .bf16}

/-- The body's term for the first half's peak is `top` of its scores. -/
theorem top_first (ha : a = tileAt q t) (hb : b = K) : k0_pay25 a b = top (scores k0_pay22 zero16 q K t) := by
  subst ha hb; rfl

/-- The body's term for the first half's scores. -/
theorem scores_first (ha : a = tileAt q t) (hb : b = K) : k0_pay24 a b = scores k0_pay22 zero16 q K t := by
  subst ha hb; unfold k0_pay24; exact shapeCast_id _ _

/-- The body's term for the second half's peak. -/
theorem top_second (ha : a = tileAt q t) (hb : b = K) :
    k0_pay30 k0_pay22 (k0_pay26 a) zero16 k0_pay27 b = top (scores k0_pay22 zero16 q K t) := by
  subst ha hb; rfl

/-- The body's term for the second half's scores. -/
theorem scores_second (ha : a = tileAt q t) (hb : b = K) :
    k0_pay29 k0_pay22 (k0_pay26 a) zero16 k0_pay27 b = scores k0_pay22 zero16 q K t := by
  subst ha hb; unfold k0_pay29; exact shapeCast_id _ _

variable {lam : FVec F S1x1 .f32} {m : FVec F S1x256 .f32} {s s' : FVec F S8448x256 .f32} {V v : Vec F S144x8448 .bf16}
  {g w : Vec F S1x128 .f32}

/-- The body's last term is `attend` of the scores it is given. -/
theorem attend_last (hm : m = top s) (hs : s' = s) (hv : v = V) (hw : w = g) :
    k0_pay1 (k0_pay32 lam m s' v) w (k0_pay33 lam m s' v) (Scalar.ofBits .f32 0x43000000#32) = attend lam V g s := by
  subst hm hs hv hw; rfl

end Copies

end Cert.Attn

end
-- ==== Proof.Attn.Close.lean ====
module

public import proofs.«01_k».proof.Proof.Attn.Target

@[expose] public section

set_option maxRecDepth 16384

noncomputable section

namespace Cert.Attn

open Idealize.ShloMosaic Idealize.ShloMosaic.TcCoe Idealize.ShloMosaic.Tactic
open Idealize.SL.Sem Cert.KernelIdeal Cert.KernelIdeal.Gen

variable {F : FTy → Type} [FloatOps F]

/-! # The output block when the body ends -/

/-- The loop takes 21 trips. -/
theorem trips_eq : Scf.trips k0_t1_loop.lb k0_t1_loop.ub k0_t1_loop.st = 21 := by decide +kernel

section Loads

variable {sig : RefSig} {κ : Kind} {sp : Space} {sh : Shape} {e : EltTy}

/-- A load of a whole buffer reads what the buffer holds. -/
theorem load_eq (v : View sig κ sp sh e) (X : v.ty.Contents (Elt F)) (x : Vec F sh e) (h : v.read (Elt F) X = x)
    {off : Fin sh.rank → ℕ} (inb : ∀ a, off a + sh.size a ≤ sh.size a) :
    v.readAt (Elt F) (Rect.unit off sh.size inb).toLoadRect X = x := (View.readAt_full v X inb).trans h

/-- The keys' scratch, written from what was loaded, holds all keys. -/
theorem keys_eq (v : View sig κ sp S8448x128 .bf16) (f : v.ty.Contents (Elt F)) {k a : Vec F S1x8192x128 .bf16}
    {kc b : Vec F S1x256x128 .bf16} (ha : a = k) (hb : b = kc) :
    v.read (Elt F) (v.writes (Elt F) f
      [⟨Rect.unit (s := S8448x128) ![256, 0] S8192x128.size inb_S8448x128_S8192x128_256_0, k0_pay16 a⟩,
       ⟨Rect.unit (s := S8448x128) ![0, 0] S256x128.size inb_S8448x128_S256x128_0_0, k0_pay15 b⟩]) = keys k kc := by
  subst ha hb; exact read_keys v f _ _

/-- The values' scratch, written from what was loaded, holds all values. -/
theorem vals_eq (v : View sig κ sp S144x8448 .bf16) (f : v.ty.Contents (Elt F)) {x a : Vec F S1x128x8192 .bf16}
    {xc b : Vec F S1x128x256 .bf16} (ha : a = x) (hb : b = xc) :
    v.read (Elt F) (v.writes (Elt F) f
      [⟨Rect.unit (s := S144x8448) ![128, 0] S16x8448.size inb_S144x8448_S16x8448_128_0, k0_pay19 (F := F)⟩,
       ⟨Rect.unit (s := S144x8448) ![0, 256] S128x8192.size inb_S144x8448_S128x8192_0_256, k0_pay18 a⟩,
       ⟨Rect.unit (s := S144x8448) ![0, 0] S128x256.size inb_S144x8448_S128x256_0_0, k0_pay17 b⟩]) = vals x xc := by
  subst ha hb; exact read_vals v f _ _

/-- The mixing number comes from the lambda vectors. -/
theorem lam_eq {l a b : Vec F S4x64 .f32} (ha : a = l) (hb : b = l) : k0_pay21 a (k0_pay20 b) = lamOf l := by
  subst ha hb; rfl

/-- A load of the query tile `t` reads that tile. -/
theorem tile_eq (v : View sig κ sp S1x8192x128 .bf16) (X : v.ty.Contents (Elt F)) (x : Vec F S1x8192x128 .bf16)
    (h : v.read (Elt F) X = x) {off : Fin 3 → ℕ} (t : ℕ) (ho : off = ![0, (tileNo t).val * 128, 0])
    (inb : ∀ a, off a + S1x128x128.size a ≤ S1x8192x128.size a) :
    v.readAt (Elt F) (Rect.unit (s := S1x8192x128) off S1x128x128.size inb).toLoadRect X = tileAt x t := by
  subst h ho; rfl

end Loads

variable (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x256x128 .bf16) (harg4 : arg4.IsWhole) (arg5 : Memref sig .tc .vmem S1x128x8192 .bf16) (harg5 : arg5.IsWhole) (arg6 : Memref sig .tc .vmem S1x128x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x8192x128 .bf16) (harg9 : arg9.IsWhole) (arg10 : Memref sig .tc .vmem S8448x128 .bf16) (harg10 : arg10.IsWhole) (arg11 : Memref sig .tc .vmem S144x8448 .bf16) (harg11 : arg11.IsWhole) (arg12 : Memref sig .tc .vmem S8448x256 .f32) (harg12 : arg12.IsWhole) (arg13 : Memref sig .tc .vmem S8448x256 .f32) (harg13 : arg13.IsWhole) (arg14 : Memref sig .tc .vmem S8448x256 .f32) (harg14 : arg14.IsWhole) (v39 : FVec F S1x1 .f32) (v42 : IVec S1x128 1) (v62 : FVec F S1x256 .f32) (v66 : FVec F S128x128 .bf16) (cst_36 : F .bf16) (v67 : IVec S1x128 1) (cst_44 : F .bf16) (X_arg2 : BufTy.Contents (Elt F) arg2.view.ty) (X_arg8 : BufTy.Contents (Elt F) arg8.view.ty) (X_arg10 : BufTy.Contents (Elt F) arg10.view.ty) (X_arg11 : BufTy.Contents (Elt F) arg11.view.ty)
/-- The loop's stores and the last tile's make up the target. -/
theorem block_eq (G_arg9 : BufTy.Contents (Elt F) arg9.view.ty) (G_arg12 : BufTy.Contents (Elt F) arg12.view.ty) (G_arg13 : BufTy.Contents (Elt F) arg13.view.ty) (G_arg14 : BufTy.Contents (Elt F) arg14.view.ty) (init : FVec F S1x256 .f32 × FVec F S1x256 .f32)
    (x0 x1 : Vec F S1x8192x128 .bf16) (x2 : Vec F S1x256x128 .bf16) (x3 : Vec F S1x128x8192 .bf16)
    (x4 : Vec F S1x128x256 .bf16) (x5 : Vec F S4x64 .f32) (x6 : Vec F S1x128 .f32)
    (m : FVec F S1x256 .f32) (s : Vec F S8448x256 .f32) (v : Vec F S144x8448 .bf16) (w : Vec F S1x128 .f32)
    (hlam : v39 = lamOf x5) (hmask : v42 = k0_pay22) (hz : cst_44 = zero16)
    (hq : arg2.view.read (Elt F) X_arg2 = x0) (hg : arg8.view.read (Elt F) X_arg8 = x6)
    (hK : arg10.view.read (Elt F) X_arg10 = keys x1 x2) (hV : arg11.view.read (Elt F) X_arg11 = vals x3 x4)
    (h0 : init.1 = top (scores k0_pay22 zero16 x0 (keys x1 x2) 0)) (h1 : init.2 = top (scores k0_pay22 zero16 x0 (keys x1 x2) 1))
    (s0 : arg12.view.read (Elt F) G_arg12 = scores k0_pay22 zero16 x0 (keys x1 x2) 0) (s1 : arg13.view.read (Elt F) G_arg13 = scores k0_pay22 zero16 x0 (keys x1 x2) 1)
    (hm : m = (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 G_arg9 G_arg12 G_arg13 G_arg14 init (Scf.trips k0_t1_loop.lb k0_t1_loop.ub k0_t1_loop.st)).1.1)
    (hs : s = arg12.view.read (Elt F) (arg12.view.writes (Elt F) G_arg12 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 G_arg9 G_arg12 G_arg13 G_arg14 init (Scf.trips k0_t1_loop.lb k0_t1_loop.ub k0_t1_loop.st)).2.2.1))
    (hv : v = vals x3 x4) (hw : w = x6) (f7 : BufTy.Contents (Elt F) arg9.view.ty) :
    arg9.view.read (Elt F) (arg9.view.writes (Elt F) f7
      (⟨Rect.unit (s := S1x8192x128) ![0, 8064, 0] S1x128x128.size inb_S1x8192x128_S1x128x128_0_8064_0,
          k0_pay1 (k0_pay32 v39 m s v) w (k0_pay33 v39 m s v) (Scalar.ofBits .f32 0x43000000#32)⟩ ::
        (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v39 v42 v62 v66 cst_36 v67 cst_44 X_arg2 X_arg8 X_arg10 X_arg11 G_arg9 G_arg12 G_arg13 G_arg14 init (Scf.trips k0_t1_loop.lb k0_t1_loop.ub k0_t1_loop.st)).2.1))
      = target x0 x1 x2 x3 x4 x5 x6 := by
  subst hmask hz
  have H := state_eq (F := F) 𝒱 c bd i arg2 harg2 arg3 harg3 arg4 harg4 arg5 harg5 arg6 harg6 arg7 harg7 arg8 harg8 arg9 harg9 arg10 harg10 arg11 harg11 arg12 harg12 arg13 harg13 arg14 harg14 v39 k0_pay22 v62 v66 cst_36 v67 zero16 X_arg2 X_arg8 X_arg10 X_arg11 G_arg9 G_arg12 G_arg13 G_arg14 init
    x0 hq x6 hg (keys x1 x2) hK (vals x3 x4) hV h0 h1 s0 s1 21 (le_of_eq trips_eq.symm)
  rw [trips_eq] at hm hs ⊢
  obtain ⟨c0, c12, -, c9⟩ := H
  have e0 := congrArg Prod.fst c0
  dsimp only at e0
  have hp := piece_eq (inb := inb_S1x8192x128_S1x128x128_0_8064_0) (tileNo 63) rfl
    (attend_last (lam := v39) (m := m) (s := scores k0_pay22 zero16 x0 (keys x1 x2) 63) (s' := s) (hm.trans e0) (hs.trans c12) hv hw)
  refine (congrArg₂ (fun p L => arg9.view.read (Elt F) (arg9.view.writes (Elt F) f7 (p :: L))) hp c9).trans ?_
  rw [hlam]
  exact read_stores arg9.view f7 _

end Cert.Attn

end
-- ==== Proof.Attn.Run.lean ====
module

public import proofs.«01_k».proof.Proof.Gen.KernelIdeal.Frame.Runs
public import proofs.«01_k».proof.Proof.Attn.Close

@[expose] public section

-- membership in a rectangle of production extents (`View.cover_of_tiled`): the elaborator's structural look
-- recurses once per coordinate of the long axes
set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body, run on whole buffers: the inputs stay, the output block is left at `target`, the scratch buffers at
    something. -/
theorem body_run (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x256x128 .bf16) (harg4 : arg4.IsWhole) (arg5 : Memref sig .tc .vmem S1x128x8192 .bf16) (harg5 : arg5.IsWhole) (arg6 : Memref sig .tc .vmem S1x128x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x8192x128 .bf16) (harg9 : arg9.IsWhole) (arg10 : Memref sig .tc .vmem S8448x128 .bf16) (harg10 : arg10.IsWhole) (arg11 : Memref sig .tc .vmem S144x8448 .bf16) (harg11 : arg11.IsWhole) (arg12 : Memref sig .tc .vmem S8448x256 .f32) (harg12 : arg12.IsWhole) (arg13 : Memref sig .tc .vmem S8448x256 .f32) (harg13 : arg13.IsWhole) (arg14 : Memref sig .tc .vmem S8448x256 .f32) (harg14 : arg14.IsWhole)
    (x0 : Vec F S1x8192x128 .bf16) (x1 : Vec F S1x8192x128 .bf16) (x2 : Vec F S1x256x128 .bf16) (x3 : Vec F S1x128x8192 .bf16) (x4 : Vec F S1x128x256 .bf16) (x5 : Vec F S4x64 .f32) (x6 : Vec F S1x128 .f32) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (target x0 x1 x2 x3 x4 x5 x6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_diff_attention i arg2 harg2 arg3 harg3 arg4 harg4 arg5 harg5 arg6 harg6 arg7 harg7 arg8 harg8 arg9 harg9 arg10 harg10 arg11 harg11 arg12 harg12 arg13 harg13 arg14 harg14) K := by
  intro E K
  · skip
    simp only [cc0_diff_attention_eq_skeleton]; unfold cc0_diff_attention_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      apply block_eq (x5 := x5) (x6 := x6)
      case hlam => sl_unfold_words; exact lam_eq (load_eq _ _ _ (harg7.read_unread _) _) (load_eq _ _ _ (harg7.read_unread _) _)
      case hmask => rfl
      case hz => rfl
      case hq => exact harg2.read_unread _
      case hg => exact harg8.read_unread _
      case hK => sl_unfold_words; exact keys_eq _ _ (load_eq _ _ _ (harg3.read_unread _) _) (load_eq _ _ _ (harg4.read_unread _) _)
      case hV => sl_unfold_words; exact vals_eq _ _ (load_eq _ _ _ (harg5.read_unread _) _) (load_eq _ _ _ (harg6.read_unread _) _)
      case h0 =>
        sl_unfold_words
        dsimp only
        exact top_first (tile_eq _ _ _ (harg2.read_unread _) 0 rfl _)
          (load_eq _ _ _ (keys_eq _ _ (load_eq _ _ _ (harg3.read_unread _) _) (load_eq _ _ _ (harg4.read_unread _) _)) _)
      case h1 =>
        sl_unfold_words
        dsimp only
        exact top_second (tile_eq _ _ _ (harg2.read_unread _) 1 rfl _)
          (load_eq _ _ _ (keys_eq _ _ (load_eq _ _ _ (harg3.read_unread _) _) (load_eq _ _ _ (harg4.read_unread _) _)) _)
      case s0 =>
        sl_unfold_words
        exact (View.read_writes_full _ _ _ _ _).trans (scores_first (tile_eq _ _ _ (harg2.read_unread _) 0 rfl _)
          (load_eq _ _ _ (keys_eq _ _ (load_eq _ _ _ (harg3.read_unread _) _) (load_eq _ _ _ (harg4.read_unread _) _)) _))
      case s1 =>
        sl_unfold_words
        exact (View.read_writes_full _ _ _ _ _).trans (scores_second (tile_eq _ _ _ (harg2.read_unread _) 1 rfl _)
          (load_eq _ _ _ (keys_eq _ _ (load_eq _ _ _ (harg3.read_unread _) _) (load_eq _ _ _ (harg4.read_unread _) _)) _))
      case hm => rfl
      case hs =>
        sl_unfold_words
        exact (View.readAt_full _ _ _).trans (congrArg _ (View.writes_append _ _ _ _))
      case hv => sl_unfold_words; exact load_eq _ _ _ (vals_eq _ _ (load_eq _ _ _ (harg5.read_unread _) _) (load_eq _ _ _ (harg6.read_unread _) _)) _
      case hw => sl_unfold_words; exact load_eq _ _ _ (harg8.read_unread _) _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Attn

end
-- ==== Proof.Attn.Frame.lean ====
module

public import proofs.«01_k».proof.Proof.Attn.Run
public import Idealize.ShloMosaic.Lib.Claim

@[expose] public section

set_option maxRecDepth 16384

noncomputable section

namespace Cert.Attn

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body at point `t` leaves in the output's buffer: the target of the point's blocks. -/
def outsAt (c : Dev nD) (t : Fin cfg0.N) : Vec F S1x8192x128 .bf16 :=
  target (iblk m c 0 t) (iblk m c 1 t) (iblk m c 2 t) (iblk m c 3 t) (iblk m c 4 t) (iblk m c 5 t) (iblk m c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- Window 1, the keys, after a point. -/
theorem after0_1 (c : Dev nD) (t : Fin cfg0.N) : (dats m 0 c).after 1 t = iblk m c 1 t := by dsimp only [dats]
/-- Window 2, the context keys, after a point. -/
theorem after0_2 (c : Dev nD) (t : Fin cfg0.N) : (dats m 0 c).after 2 t = iblk m c 2 t := by dsimp only [dats]
/-- Window 3, the values, after a point. -/
theorem after0_3 (c : Dev nD) (t : Fin cfg0.N) : (dats m 0 c).after 3 t = iblk m c 3 t := by dsimp only [dats]
/-- Window 4, the context values, after a point. -/
theorem after0_4 (c : Dev nD) (t : Fin cfg0.N) : (dats m 0 c).after 4 t = iblk m c 4 t := by dsimp only [dats]
/-- Window 5, the four vectors, after a point. -/
theorem after0_5 (c : Dev nD) (t : Fin cfg0.N) : (dats m 0 c).after 5 t = iblk m c 5 t := by dsimp only [dats]
/-- Window 6, the norm scale, after a point. -/
theorem after0_6 (c : Dev nD) (t : Fin cfg0.N) : (dats m 0 c).after 6 t = iblk m c 6 t := by dsimp only [dats]
/-- Window 7, the output, after a point: the block's output. -/
theorem after0_7 (c : Dev nD) (t : Fin cfg0.N) : (dats m 0 c).after 7 t = (outsAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1, the keys, before a point. -/
theorem before0_1 (c : Dev nD) (t : Fin cfg0.N) (d) : (dats m 0 c).before 1 t d = iblk m c 1 t :=
  before0_1_of m (dats m 0 c) (A_eq m c 1) (after0_1 m c) t d
/-- Window 2, the context keys, before a point. -/
theorem before0_2 (c : Dev nD) (t : Fin cfg0.N) (d) : (dats m 0 c).before 2 t d = iblk m c 2 t :=
  before0_2_of m (dats m 0 c) (A_eq m c 2) (after0_2 m c) t d
/-- Window 3, the values, before a point. -/
theorem before0_3 (c : Dev nD) (t : Fin cfg0.N) (d) : (dats m 0 c).before 3 t d = iblk m c 3 t :=
  before0_3_of m (dats m 0 c) (A_eq m c 3) (after0_3 m c) t d
/-- Window 4, the context values, before a point. -/
theorem before0_4 (c : Dev nD) (t : Fin cfg0.N) (d) : (dats m 0 c).before 4 t d = iblk m c 4 t :=
  before0_4_of m (dats m 0 c) (A_eq m c 4) (after0_4 m c) t d
/-- Window 5, the four vectors, before a point. -/
theorem before0_5 (c : Dev nD) (t : Fin cfg0.N) (d) : (dats m 0 c).before 5 t d = iblk m c 5 t :=
  before0_5_of m (dats m 0 c) (A_eq m c 5) (after0_5 m c) t d
/-- Window 6, the norm scale, before a point. -/
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The attention call at any number type: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Attn

end
-- ==== Proof.Attn.Bits.lean ====
/- The frame of the kernel at the machine's own numbers, from the frame proved at every reading. -/
module

public import proofs.«01_k».proof.Proof.Attn.Frame
public import proofs.«01_k».proof.Proof.Gen.Kernel.Frame.Runs
public import proofs.«01_k».proof.Defs

@[expose] public section

set_option maxRecDepth 16384

noncomputable section

namespace Cert.Attn
open Idealize.ShloMosaic Idealize.ShloMosaic.TcCoe Idealize.SL.Sem
open Cert.KernelIdeal
variable {F : FTy → Type} [FloatOps F]

/-- What the frame says of the kernel at the machine's own numbers, over the text shared with the ideal reading. -/
def AtBits : Prop := ∀ (m : (ℓ : Loc nD τ sig) → Buf (Elt Bits) ℓ) (ρ : Dev nD → PrngReg), True → θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

/-- The two texts of the kernel are one program. -/
theorem same : AtBits = Cert.quiescent_Kernel := by sl_kernel_rfl

/-- The kernel as it is leaves its arguments and counters as they were. -/
theorem frame_bits : Cert.quiescent_Kernel := same.mp fun m ρ _ => frame (F := Bits) m ρ

end Cert.Attn

end
-- ==== Proof.Attn.Spec.lean ====
/- The differential attention of one query against all keys, over the extended reals: the quotient-of-sums form
   and the softmax form, whose norms are equal where the values and the weight are finite. -/
module

public import Idealize.ShloMosaic.PureOps.Ideal
public import Idealize.ShloMosaic.Lib.IdealHost
public import Mathlib.Analysis.SpecialFunctions.Pow.Real

@[expose] public section

set_option maxRecDepth 16384

noncomputable section

namespace Cert.Attn

open Idealize.ShloMosaic

/-- A number that is neither infinity. -/
def IsNum (x : EReal) : Prop := ∃ r : ℝ, x = (r : EReal)

/-- The context's 256 rows, then the sequence's 8192. -/
def join (c : Fin 256 → EReal) (x : Fin 8192 → EReal) (k : Fin 8448) : EReal :=
  if h : k.val < 256 then c ⟨k.val, h⟩ else x ⟨k.val - 256, by omega⟩

/-- The product of a query and a key over half `e` of the lanes. -/
def logit (q k : Fin 128 → EReal) (e : Fin 2) : EReal :=
  ∑ j : Fin 64, k ⟨64 * e.val + j.val, by omega⟩ * q ⟨64 * e.val + j.val, by omega⟩

/-- The weight of the second attention, from the four vectors. -/
def lamNum (l : Fin 4 → Fin 64 → EReal) : EReal :=
  Ideal.exp (∑ j, l 0 j * l 1 j) - Ideal.exp (∑ j, l 2 j * l 3 j) + Ideal.ofBits .f32 0x3EB60549#32

/-- The greatest logit, from minus infinity on. -/
def peak (s : Fin 8448 → EReal) : EReal := Finset.univ.fold max (Ideal.ofBits .f32 0xFF800000#32) s

/-- The values' mean with weights `2 ^ (s - peak)`, as a quotient of two sums. -/
def mean (s v : Fin 8448 → EReal) : EReal :=
  Ideal.div (∑ k, v k * Ideal.exp2 (s k - peak s)) (∑ k, (1 : EReal) * Ideal.exp2 (s k - peak s))

/-- The natural logarithm of two. -/
def ln2 : EReal := Ideal.log (Ideal.ofBits .f32 0x40000000#32)

/-- The softmax of the logits times the logarithm of two. -/
def prob (s : Fin 8448 → EReal) (k : Fin 8448) : EReal :=
  Ideal.div (Ideal.exp (s k * ln2 - max (Ideal.ofBits .f32 0xFF800000#32) (peak fun k => s k * ln2)))
    (∑ k, Ideal.exp (s k * ln2 - max (Ideal.ofBits .f32 0xFF800000#32) (peak fun k => s k * ln2)))

/-- The sub-layer norm of a head's row. -/
def normed (o g : Fin 128 → EReal) (d : Fin 128) : EReal :=
  o d * Ideal.rsqrt (Ideal.div (∑ x, o x * o x) (Ideal.ofBits .f32 0x43000000#32) + Ideal.ofBits .f32 0x358637BD#32)
    * g d * Ideal.ofBits .f32 0x3F24FD5C#32

/-- The word of minus infinity. -/
theorem ofBits_ninf : Ideal.ofBits .f32 0xFF800000#32 = ⊥ := by simp [Ideal.ofBits, Ideal.ieee]

/-- The word of two. -/
theorem ofBits_two : Ideal.ofBits .f32 0x40000000#32 = ((2 : ℝ) : EReal) := by
  simp [Ideal.ofBits, Ideal.ieee, -EReal.coe_mul]; norm_num

/-- `ln2` is the real logarithm of two. -/
theorem ln2_eq : ln2 = ((Real.log 2 : ℝ) : EReal) := by
  rw [ln2, ofBits_two, Ideal.log_coe, if_neg (by norm_num)]

/-- The constant in the weight is a number. -/
theorem isNum_lamInit : IsNum (Ideal.ofBits .f32 0x3EB60549#32) := by
  unfold Ideal.ofBits Ideal.ieee
  dsimp only
  rw [if_neg (by decide), if_neg (by decide)]
  exact ⟨_, rfl⟩

/-- A sum of reals, taken over the extended reals. -/
theorem coe_sum {n : ℕ} (f : Fin n → ℝ) : (∑ k, ((f k : ℝ) : EReal)) = ((∑ k, f k : ℝ) : EReal) := by
  induction (Finset.univ : Finset (Fin n)) using Finset.induction_on with
  | empty => simp
  | insert a s ha ih => rw [Finset.sum_insert ha, Finset.sum_insert ha, ih, EReal.coe_add]

/-- A sum of numbers is a number. -/
theorem isNum_sum {n : ℕ} {f : Fin n → EReal} (h : ∀ k, IsNum (f k)) : IsNum (∑ k, f k) := by
  choose r hr using h
  exact ⟨∑ k, r k, by rw [← coe_sum]; exact Finset.sum_congr rfl fun k _ => hr k⟩

/-- A product of numbers is a number. -/
theorem isNum_mul {x y : EReal} (hx : IsNum x) (hy : IsNum y) : IsNum (x * y) := by
  obtain ⟨a, rfl⟩ := hx; obtain ⟨b, rfl⟩ := hy; exact ⟨a * b, by rw [EReal.coe_mul]⟩

/-- The quotient of two reals. -/
theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- No logit lies above the greatest. -/
theorem le_peak (s : Fin 8448 → EReal) (k : Fin 8448) : s k ≤ peak s := by
  unfold peak; rw [Finset.le_fold_max]; exact .inr ⟨k, Finset.mem_univ _, le_rfl⟩

/-- The greatest of the logits times the logarithm of two. -/
theorem peak_ln2 (s : Fin 8448 → EReal) : (peak fun k => s k * ln2) = peak s * ln2 := by
  have h0 : (0 : EReal) ≤ ln2 := by rw [ln2_eq]; exact_mod_cast Real.log_nonneg (by norm_num)
  have hm : Monotone fun x : EReal => x * ln2 := fun x y h => mul_le_mul_of_nonneg_right h h0
  have hb : (⊥ : EReal) * ln2 = ⊥ := by rw [ln2_eq]; exact EReal.bot_mul_coe_of_pos (Real.log_pos (by norm_num))
  unfold peak
  rw [ofBits_ninf]
  have h := Finset.fold_hom (op := max) (op' := max) (s := (Finset.univ : Finset (Fin 8448))) (b := ⊥) (f := s)
    (m := fun x : EReal => x * ln2) fun x y => hm.map_max
  rw [← h, hb]

/-- Where the greatest logit is a number, each exponential is a real weight times a factor of its own base: the weights are not
    all zero. A logit of minus infinity has the weight zero. -/
theorem weights {s : Fin 8448 → EReal} {a : ℝ} (ha : peak s = a) : ∃ e : Fin 8448 → ℝ, 0 < ∑ k, e k
    ∧ (∀ k, Ideal.exp2 (s k - a) = ((e k * Real.exp (-(a * Real.log 2)) : ℝ) : EReal))
    ∧ ∀ k, Ideal.exp (s k * ln2 - ((a * Real.log 2 : ℝ) : EReal)) = ((e k * Real.exp (-(a * Real.log 2)) : ℝ) : EReal) := by
  have htop : ∀ k, s k ≠ ⊤ := fun k h => by
    have := le_peak s k; rw [ha, h] at this; exact EReal.coe_ne_top a (top_le_iff.mp this)
  have hcase : ∀ k, s k = ⊥ ∨ ∃ r : ℝ, s k = r := fun k => by
    by_cases hk : s k = ⊥
    · exact .inl hk
    · exact .inr ⟨(s k).toReal, (EReal.coe_toReal (htop k) hk).symm⟩
  have hb : (⊥ : EReal) * ln2 = ⊥ := by rw [ln2_eq]; exact EReal.bot_mul_coe_of_pos (Real.log_pos (by norm_num))
  refine ⟨fun k => if s k = ⊥ then 0 else Real.exp ((s k).toReal * Real.log 2), ?_, fun k => ?_, fun k => ?_⟩
  · obtain ⟨k, hk⟩ : ∃ k, s k ≠ ⊥ := by
      by_contra hn
      push Not at hn
      have : peak s ≤ ⊥ := by
        unfold peak; rw [Finset.fold_max_le, ofBits_ninf]
        exact ⟨le_rfl, fun k _ => (hn k).le⟩
      rw [ha] at this
      exact EReal.coe_ne_bot a (le_bot_iff.mp this)
    refine Finset.sum_pos' (fun j _ => ?_) ⟨k, Finset.mem_univ _, ?_⟩
    · split
      · exact le_rfl
      · exact (Real.exp_pos _).le
    · rw [if_neg hk]; exact Real.exp_pos _
  · dsimp only
    rcases hcase k with h | ⟨r, h⟩
    · rw [if_pos h, h]; simp
    · rw [h, ← EReal.coe_sub, Ideal.exp2_coe, if_neg (EReal.coe_ne_bot r), EReal.toReal_coe, ← Real.exp_add]
      congr 1
      show (2 : ℝ) ^ (r - a) = _
      rw [Real.rpow_def_of_pos (by norm_num)]; congr 1; ring
  · dsimp only
    rcases hcase k with h | ⟨r, h⟩
    · rw [if_pos h, h, hb]; simp
    · rw [h, ln2_eq, ← EReal.coe_mul, ← EReal.coe_sub, Ideal.exp_coe, if_neg (EReal.coe_ne_bot r), EReal.toReal_coe, ← Real.exp_add]
      congr 2

/-- Where the greatest logit is a number, the quotient of sums is the softmax's mean, and one number. -/
theorem mean_eq {s v : Fin 8448 → EReal} (hs : IsNum (peak s)) :
    ∃ (p : Fin 8448 → ℝ), (∀ k, prob s k = p k) ∧ ∀ w : Fin 8448 → ℝ, (∀ k, v k = w k) →
      mean s v = ((∑ k, w k * p k : ℝ) : EReal) := by
  obtain ⟨a, ha⟩ := hs
  obtain ⟨e, hpos, h2, h1⟩ := weights ha
  have hS : (∑ k, e k * Real.exp (-(a * Real.log 2))) ≠ 0 := by
    rw [← Finset.sum_mul]; exact mul_ne_zero hpos.ne' (Real.exp_ne_zero _)
  refine ⟨fun k => e k * Real.exp (-(a * Real.log 2)) / ∑ k, e k * Real.exp (-(a * Real.log 2)), fun k => ?_, fun w hw => ?_⟩
  · unfold prob
    rw [peak_ln2, ha, ofBits_ninf, max_eq_right bot_le, ln2_eq, ← EReal.coe_mul]
    simp only [← ln2_eq, h1]
    rw [coe_sum, div_coe hS]
  · unfold mean
    rw [ha]
    simp only [h2, hw, ← EReal.coe_mul, one_mul]
    rw [coe_sum, coe_sum, div_coe hS, Finset.sum_div]
    exact congrArg _ (Finset.sum_congr rfl fun k _ => mul_div_assoc _ _ _)

/-- Where the greatest logit is infinite, every logit less the greatest is minus infinity. -/
theorem sub_peak {s : Fin 8448 → EReal} {P : EReal} (hP : P = ⊤ ∨ P = ⊥) (hle : ∀ k, s k ≤ P) (k : Fin 8448) : s k - P = ⊥ := by
  rcases hP with rfl | rfl
  · rw [sub_eq_add_neg, EReal.neg_top, EReal.add_bot]
  · rw [le_bot_iff.mp (hle k)]; rfl

/-- There the softmax has minus infinity everywhere, and so has the quotient of sums: both divide zero by zero. -/
theorem mean_bad {s : Fin 8448 → EReal} (hs : ¬ IsNum (peak s)) : (∀ k, prob s k = ⊥) ∧ ∀ v, mean s v = ⊥ := by
  have hP : peak s = ⊤ ∨ peak s = ⊥ := by
    by_contra hn
    push Not at hn
    exact hs ⟨(peak s).toReal, (EReal.coe_toReal hn.1 hn.2).symm⟩
  have hl : (0 : ℝ) < Real.log 2 := Real.log_pos (by norm_num)
  have hQ : peak s * ln2 = ⊤ ∨ peak s * ln2 = ⊥ := by
    rw [ln2_eq]
    rcases hP with h | h
    · exact .inl (by rw [h, EReal.top_mul_coe_of_pos hl])
    · exact .inr (by rw [h, EReal.bot_mul_coe_of_pos hl])
  have h0 : Ideal.div 0 0 = ⊥ := by simp [Ideal.div]
  refine ⟨fun k => ?_, fun v => ?_⟩
  · unfold prob
    rw [ofBits_ninf, max_eq_right bot_le, peak_ln2]
    have h : ∀ k, s k * ln2 - peak s * ln2 = ⊥ :=
      sub_peak (s := fun k => s k * ln2) hQ fun k => peak_ln2 s ▸ le_peak (fun k => s k * ln2) k
    simp only [h, Ideal.exp_bot, Finset.sum_const_zero, h0]
  · unfold mean
    simp only [sub_peak hP (le_peak s), Ideal.exp2_bot, mul_zero, Finset.sum_const_zero, h0]

/-- One query's mix of the two attentions, as the kernel forms it. -/
def mix (lam : EReal) (s1 s2 v : Fin 8448 → EReal) : EReal := mean s1 v - lam * mean s2 v

/-- The same, as the values' sum with the difference of the two softmaxes. -/
def mixRef (lam : EReal) (s1 s2 v : Fin 8448 → EReal) : EReal := ∑ k, v k * (prob s1 k - lam * prob s2 k)

/-- The two are equal where both attentions have a greatest logit that is a number. -/
theorem mix_eq {lam : EReal} {s1 s2 v : Fin 8448 → EReal} (hl : IsNum lam) (h1 : IsNum (peak s1)) (h2 : IsNum (peak s2))
    (hv : ∀ k, IsNum (v k)) : mix lam s1 s2 v = mixRef lam s1 s2 v := by
  obtain ⟨l, rfl⟩ := hl
  obtain ⟨p1, hp1, hm1⟩ := mean_eq (v := v) h1
  obtain ⟨p2, hp2, hm2⟩ := mean_eq (v := v) h2
  choose w hw using hv
  unfold mix mixRef
  rw [hm1 w hw, hm2 w hw]
  simp only [hp1, hp2, hw, ← EReal.coe_mul, ← EReal.coe_sub]
  rw [coe_sum]
  congr 1
  rw [Finset.mul_sum, ← Finset.sum_sub_distrib]
  exact Finset.sum_congr rfl fun k _ => by ring

/-- An infinity. -/
def IsInf (x : EReal) : Prop := x = ⊤ ∨ x = ⊥

/-- A sum with an infinite term is infinite. -/
theorem isInf_sum {n : ℕ} {f : Fin n → EReal} {k : Fin n} (h : IsInf (f k)) : IsInf (∑ k, f k) := by
  rw [← Finset.add_sum_erase _ _ (Finset.mem_univ k)]
  generalize ∑ x ∈ Finset.univ.erase k, f x = y
  rcases h with h | h <;> rw [h]
  · by_cases hy : y = ⊥
    · right; rw [hy]; rfl
    · left; exact EReal.top_add_of_ne_bot hy
  · right; exact EReal.bot_add y

/-- The norm of a head's row that holds an infinity is zero. -/
theorem normed_inf {o : Fin 128 → EReal} {x : Fin 128} (h : IsInf (o x)) (g : Fin 128 → EReal) : normed o g = fun _ => 0 := by
  have hsq : ∑ x, o x * o x = ⊤ := by
    refine (isInf_sum (k := x) (f := fun x => o x * o x) (.inl ?_)).resolve_right fun hb => ?_
    · rcases h with h | h <;> simp [h]
    · have : (0 : EReal) ≤ ∑ x, o x * o x := Finset.sum_nonneg fun x _ => by
        rcases le_total 0 (o x) with h | h
        · exact mul_nonneg h h
        · rw [← neg_mul_neg]; exact mul_nonneg (EReal.neg_nonneg.mpr h) (EReal.neg_nonneg.mpr h)
      rw [hb] at this; simp at this
  have hn : Ideal.ofBits .f32 0x43000000#32 = ((128 : ℝ) : EReal) := by
    simp [Ideal.ofBits, Ideal.ieee, -EReal.coe_mul]; norm_num
  obtain ⟨r, hr⟩ : IsNum (Ideal.ofBits .f32 0x358637BD#32) := by
    unfold Ideal.ofBits Ideal.ieee
    dsimp only
    rw [if_neg (by decide), if_neg (by decide)]
    exact ⟨_, rfl⟩
  have hd : Ideal.div ⊤ ((128 : ℝ) : EReal) = ⊤ := by
    unfold Ideal.div
    rw [if_neg (by norm_num), ← EReal.coe_inv, EReal.top_mul_coe_of_pos (by norm_num)]
  funext d
  unfold normed
  rw [hsq, hn, hd, hr, EReal.top_add_coe, Ideal.rsqrt_top]
  simp

/-- The norm of a row of zeros is zero. -/
theorem normed_zero {o : Fin 128 → EReal} (h : ∀ x, o x = 0) (g : Fin 128 → EReal) : normed o g = fun _ => 0 := by
  funext d; unfold normed; rw [h d]; simp

/-- Values times one infinity: the norm of their sums is zero. -/
theorem normed_const {v : Fin 128 → Fin 8448 → EReal} (hv : ∀ d k, IsNum (v d k)) {z : EReal} (hz : IsInf z)
    (g : Fin 128 → EReal) : normed (fun d => ∑ k, v d k * z) g = fun _ => 0 := by
  by_cases h : ∃ d k, v d k ≠ 0
  · obtain ⟨d, k, h⟩ := h
    refine normed_inf (x := d) (isInf_sum (k := k) ?_) g
    obtain ⟨r, hr⟩ := hv d k
    rw [hr] at h ⊢
    have hr0 : r ≠ 0 := fun h0 => h (by rw [h0]; rfl)
    rcases lt_or_gt_of_ne hr0 with h | h <;> rcases hz with rfl | rfl
    · exact .inr (EReal.coe_mul_top_of_neg h)
    · exact .inl (EReal.coe_mul_bot_of_neg h)
    · exact .inl (EReal.coe_mul_top_of_pos h)
    · exact .inr (EReal.coe_mul_bot_of_pos h)
  · push Not at h
    exact normed_zero (fun d => by simp [h]) g

/-- The norms of the two mixes are equal, whatever the logits are, where the values and the weight are numbers. -/
theorem normed_mix {lam : EReal} {s1 s2 : Fin 8448 → EReal} {v : Fin 128 → Fin 8448 → EReal} (hl : IsNum lam)
    (hv : ∀ d k, IsNum (v d k)) (g : Fin 128 → EReal) :
    normed (fun d => mix lam s1 s2 (v d)) g = normed (fun d => mixRef lam s1 s2 (v d)) g := by
  by_cases h1 : IsNum (peak s1)
  swap
  · obtain ⟨hp, hm⟩ := mean_bad h1
    unfold mix mixRef
    simp only [hp, hm, EReal.bot_sub]
    rw [normed_inf (x := 0) (.inr rfl) g, normed_const hv (.inr rfl) g]
  by_cases h2 : IsNum (peak s2)
  · simp only [mix_eq hl h1 h2 (hv _)]
  obtain ⟨hp, hm⟩ := mean_bad h2
  have hw : ∀ d, ∃ r : ℝ, mean s1 (v d) = r := fun d => by
    obtain ⟨p, _, h⟩ := mean_eq (v := v d) h1
    choose w hw using hv d
    exact ⟨_, h w hw⟩
  obtain ⟨l, rfl⟩ := hl
  unfold mix mixRef
  simp only [hp, hm]
  rcases lt_trichotomy l 0 with h | h | h
  · rw [EReal.coe_mul_bot_of_neg h]
    obtain ⟨p, hp1, _⟩ := mean_eq (v := v 0) h1
    obtain ⟨r, hr⟩ := hw 0
    have hc : ∀ x : ℝ, (x : EReal) - ⊤ = ⊥ := fun x => by rw [sub_eq_add_neg, EReal.neg_top, EReal.add_bot]
    simp only [hp1, hc]
    rw [normed_inf (x := 0) (.inr (by rw [hr, hc])) g, normed_const hv (.inr rfl) g]
  · rw [h]
    simp only [EReal.coe_zero, zero_mul, sub_zero]
    congr 1
    funext d
    obtain ⟨p, hp1, hm1⟩ := mean_eq (v := v d) h1
    choose w hw using hv d
    rw [hm1 w hw]
    simp only [hp1, hw, ← EReal.coe_mul]
    rw [coe_sum]
  · rw [EReal.coe_mul_bot_of_pos h]
    obtain ⟨p, hp1, _⟩ := mean_eq (v := v 0) h1
    obtain ⟨r, hr⟩ := hw 0
    have hc : ∀ x : ℝ, (x : EReal) - ⊥ = ⊤ := fun x => by rw [sub_eq_add_neg, EReal.neg_bot, EReal.coe_add_top]
    simp only [hp1, hc]
    rw [normed_inf (x := 0) (.inl (by rw [hr, hc])) g, normed_const hv (.inl rfl) g]

/-- The weight of the second attention is a number. -/
theorem isNum_lam {l : Fin 4 → Fin 64 → EReal} (h : ∀ i j, IsNum (l i j)) : IsNum (lamNum l) := by
  obtain ⟨a, ha⟩ := isNum_sum fun j => isNum_mul (h 0 j) (h 1 j)
  obtain ⟨b, hb⟩ := isNum_sum fun j => isNum_mul (h 2 j) (h 3 j)
  obtain ⟨c, hc⟩ := isNum_lamInit
  exact ⟨Real.exp a - Real.exp b + c, by rw [lamNum, ha, hb, hc, Ideal.exp_coe, Ideal.exp_coe, EReal.coe_add, EReal.coe_sub]⟩

/-- Joined numbers are numbers. -/
theorem isNum_join {c : Fin 256 → EReal} {x : Fin 8192 → EReal} (hc : ∀ k, IsNum (c k)) (hx : ∀ k, IsNum (x k))
    (k : Fin 8448) : IsNum (join c x k) := by
  unfold join; split
  · exact hc _
  · exact hx _

/-- A query's row of the result: the mix of its two attentions, normed over the head. -/
def row (q : Fin 128 → EReal) (kx : Fin 8192 → Fin 128 → EReal) (kc : Fin 256 → Fin 128 → EReal)
    (vx : Fin 128 → Fin 8192 → EReal) (vc : Fin 128 → Fin 256 → EReal) (l : Fin 4 → Fin 64 → EReal)
    (g : Fin 128 → EReal) : Fin 128 → EReal :=
  normed (fun d => mix (lamNum l) (fun k => logit q (fun j => join (fun k => kc k j) (fun k => kx k j) k) 0)
    (fun k => logit q (fun j => join (fun k => kc k j) (fun k => kx k j) k) 1) (join (vc d) (vx d))) g

end Cert.Attn

end
-- ==== Proof.Attn.Val.lean ====
/- What the attention kernel's body leaves, read at an index over the extended reals. -/
module

public import proofs.«01_k».proof.Proof.Attn.Target
public import proofs.«01_k».proof.Proof.Attn.Spec
public import Idealize.ShloMosaic.Lib.ValueIdxCore
public import Idealize.ShloMosaic.Lib.Pointwise

@[expose] public section

set_option maxRecDepth 16384

noncomputable section

namespace Cert.Attn

open Idealize.ShloMosaic Idealize.ShloMosaic.TcCoe Idealize.ShloMosaic.Tactic
open Idealize.SL.Sem Cert.KernelIdeal Cert.KernelIdeal.Gen

/-- The mask keeps the first half of the lanes. -/
theorem mask_at : ∀ j : Fin 128, (k0_pay22 : IVec S1x128 1) (ix2 0 j) = if j.val < 64 then 1#1 else 0#1 := by
  intro j
  pointwise [k0_pay22]
  revert j
  decide +kernel

/-- A sum over 128 lanes whose second half is zero. -/
theorem sum_first (f : Fin 128 → EReal) (h : ∀ j : Fin 128, 64 ≤ j.val → f j = 0) :
    ∑ j, f j = ∑ j : Fin 64, f ⟨64 * (0 : Fin 2).val + j.val, by show 64 * 0 + j.val < 128; omega⟩ := by
  rw [show (∑ j, f j) = _ from Fin.sum_univ_add (a := 64) (b := 64) f,
    Finset.sum_eq_zero (s := Finset.univ) (f := fun j : Fin 64 => f (Fin.natAdd 64 j)) (fun j _ => h _ (by show 64 ≤ 64 + j.val; omega)), add_zero]
  exact Finset.sum_congr rfl fun j _ => congrArg f (Fin.ext (by show j.val = 64 * 0 + j.val; omega))

/-- A sum over 128 lanes whose first half is zero. -/
theorem sum_second (f : Fin 128 → EReal) (h : ∀ j : Fin 128, j.val < 64 → f j = 0) :
    ∑ j, f j = ∑ j : Fin 64, f ⟨64 * (1 : Fin 2).val + j.val, by show 64 * 1 + j.val < 128; omega⟩ := by
  rw [show (∑ j, f j) = _ from Fin.sum_univ_add (a := 64) (b := 64) f,
    Finset.sum_eq_zero (s := Finset.univ) (f := fun j : Fin 64 => f (Fin.castAdd 64 j)) (fun j _ => h _ (by show j.val < 64; omega)), zero_add]
  exact Finset.sum_congr rfl fun j _ => congrArg f (Fin.ext (by show 64 + j.val = 64 * 1 + j.val; omega))

/-- A tile's rows are the sequence's. -/
theorem tileAt_at (q : Vec Ideal S1x8192x128 .bf16) (t : ℕ) (r j : Fin 128) :
    tileAt q t (ix3 0 r j) = q (ix3 0 (⟨(tileNo t).val * 128 + r.val, by have := (tileNo t).isLt; omega⟩ : Fin 8192) j) := by
  refine congrArg q (funext fun a => Fin.ext ?_)
  fin_cases a
  · rfl
  · show (tileNo t).val * 128 + 1 * r.val = _; rw [one_mul]; rfl
  · show 0 + 1 * j.val = _; rw [one_mul, zero_add]; rfl

/-- The scores of row `r` of a tile in the first half of the columns: the product over the first half of the lanes. -/
theorem pay7_first (K : Vec Ideal S8448x128 .bf16) (w : Vec Ideal S1x128x128 .bf16) (k : Fin 8448) (r : Fin 128) :
    k0_pay7 (F := Ideal) k0_pay22 zero16 w K (ix2 k (⟨r.val, by omega⟩ : Fin 256))
      = logit (fun j => w (ix3 0 r j)) (fun j => K (ix2 k j)) 0 := by
  have hz : (zero16 : Ideal .bf16) = 0 := Ideal.ofBits_zero_bf16
  pointwise [k0_pay7]
  simp only [r.isLt, dite_true, mask_at, hz]
  refine (sum_first _ fun j hj => ?_).trans (Finset.sum_congr rfl fun j _ => ?_)
  · rw [if_neg (by omega), Scalar.select]; simp
  · rw [if_pos (by show 64 * 0 + j.val < 64; omega), Scalar.select]; simp

/-- The scores of row `r` of a tile in the second half of the columns: the product over the second half of the lanes. -/
theorem pay7_second (K : Vec Ideal S8448x128 .bf16) (w : Vec Ideal S1x128x128 .bf16) (k : Fin 8448) (r : Fin 128) :
    k0_pay7 (F := Ideal) k0_pay22 zero16 w K (ix2 k (⟨128 + r.val, by omega⟩ : Fin 256))
      = logit (fun j => w (ix3 0 r j)) (fun j => K (ix2 k j)) 1 := by
  have hz : (zero16 : Ideal .bf16) = 0 := Ideal.ofBits_zero_bf16
  pointwise [k0_pay7]
  simp only [show ¬ (128 + r.val < 128) by omega, dite_false, mask_at, hz]
  refine (sum_second _ fun j hj => ?_).trans (Finset.sum_congr rfl fun j _ => ?_)
  · rw [if_pos hj, Scalar.select]; simp
  · rw [if_neg (by show ¬ 64 * 1 + j.val < 64; omega), Scalar.select]
    simp only [show 128 + r.val - 128 = r.val by omega]; simp

/-- The greatest score of a column. -/
theorem top_at (s : FVec Ideal S8448x256 .f32) (r : Fin 256) : top s (ix2 0 r) = peak fun k => s (ix2 k r) := by
  pointwise [top, k0_pay9]
  rfl

/-- A tile's output row: the mix of its two columns of scores, normed. -/
theorem attend_at (lam : FVec Ideal S1x1 .f32) (V : Vec Ideal S144x8448 .bf16) (g : Vec Ideal S1x128 .f32)
    (s : FVec Ideal S8448x256 .f32) (r d : Fin 128) (hV : ∀ k, V (ix2 128 k) = 1) :
    attend lam V g s (ix3 0 r d)
      = normed (fun d => mix (lam (ix2 0 0)) (fun k => s (ix2 k (⟨r.val, by omega⟩ : Fin 256)))
          (fun k => s (ix2 k (⟨128 + r.val, by omega⟩ : Fin 256))) (fun k => V (ix2 (⟨d.val, by omega⟩ : Fin 144) k)))
        (fun d => g (ix2 0 d)) d := by
  have e : attend lam V g s = k0_pay10 lam (top s) s V g := rfl
  rw [e]
  pointwise [k0_pay10]
  simp only [hV, top_at]
  rfl

/-- The weight of the second attention. -/
theorem lam_at (l : Vec Ideal S4x64 .f32) : lamOf l (ix2 0 0) = lamNum fun i j => l (ix2 i j) := by
  pointwise [lamOf, k0_pay21, k0_pay20]
  rfl

/-- The keys' scratch holds the context's keys, then the sequence's. -/
theorem keys_at (x : Vec Ideal S1x8192x128 .bf16) (xc : Vec Ideal S1x256x128 .bf16) (k : Fin 8448) (j : Fin 128) :
    keys x xc (ix2 k j) = join (fun k => xc (ix3 0 k j)) (fun k => x (ix3 0 k j)) k := by
  unfold keys join
  refine dite_congr rfl (fun h => ?_) (fun h => ?_)
  · pointwise [k0_pay15]
  · pointwise [k0_pay16]

/-- The values' scratch holds the context's values, then the sequence's. -/
theorem vals_at (x : Vec Ideal S1x128x8192 .bf16) (xc : Vec Ideal S1x128x256 .bf16) (d : Fin 128) (k : Fin 8448) :
    vals x xc (ix2 (⟨d.val, by omega⟩ : Fin 144) k) = join (fun k => xc (ix3 0 d k)) (fun k => x (ix3 0 d k)) k := by
  have h0 : vals x xc (ix2 (⟨d.val, by omega⟩ : Fin 144) k) = if h' : k.val < 256 then k0_pay17 xc (ix2 d ⟨k.val, h'⟩)
    else k0_pay18 x (ix2 d ⟨k.val - 256, by omega⟩) := dif_pos d.isLt
  rw [h0]
  unfold join
  refine dite_congr rfl (fun h => ?_) (fun h => ?_)
  · pointwise [k0_pay17]
  · pointwise [k0_pay18]

/-- The sixteen rows under the values hold ones. -/
theorem ones_at (x : Vec Ideal S1x128x8192 .bf16) (xc : Vec Ideal S1x128x256 .bf16) (k : Fin 8448) :
    vals x xc (ix2 128 k) = 1 := by
  have h0 : vals x xc (ix2 128 k) = k0_pay19 (F := Ideal) (ix2 (⟨0, by omega⟩ : Fin 16) k) := dif_neg (by show ¬ 128 < 128; omega)
  rw [h0]
  pointwise [k0_pay19]

/-- Row `s` of what the body leaves. -/
theorem target_at (x0 x1 : Vec Ideal S1x8192x128 .bf16) (x2 : Vec Ideal S1x256x128 .bf16) (x3 : Vec Ideal S1x128x8192 .bf16)
    (x4 : Vec Ideal S1x128x256 .bf16) (x5 : Vec Ideal S4x64 .f32) (x6 : Vec Ideal S1x128 .f32) (s : Fin 8192) (d : Fin 128) :
    target x0 x1 x2 x3 x4 x5 x6 (ix3 0 s d)
      = row (fun j => x0 (ix3 0 s j)) (fun k j => x1 (ix3 0 k j)) (fun k j => x2 (ix3 0 k j)) (fun d k => x3 (ix3 0 d k))
          (fun d k => x4 (ix3 0 d k)) (fun i j => x5 (ix2 i j)) (fun d => x6 (ix2 0 d)) d := by
  have hs := s.isLt
  have e : target x0 x1 x2 x3 x4 x5 x6 (ix3 0 s d) = attend (lamOf x5) (vals x3 x4) x6
      (scores k0_pay22 zero16 x0 (keys x1 x2) (s.val / 128)) (ix3 0 (⟨s.val % 128, Nat.mod_lt _ (by omega)⟩ : Fin 128) d) := rfl
  have hq : ∀ j : Fin 128, tileAt x0 (s.val / 128) (ix3 0 (⟨s.val % 128, Nat.mod_lt _ (by omega)⟩ : Fin 128) j) = x0 (ix3 0 s j) := fun j => by
    rw [tileAt_at]
    refine congrArg x0 (congrArg (fun z => ix3 (n0 := 1) 0 z j) (Fin.ext ?_))
    show min (s.val / 128) 63 * 128 + s.val % 128 = s.val
    omega
  rw [e, attend_at _ _ _ _ _ _ (ones_at x3 x4)]
  unfold scores row
  have p1 := fun k => pay7_first (keys x1 x2) (tileAt x0 (s.val / 128)) k ⟨s.val % 128, Nat.mod_lt _ (by omega)⟩
  have p2 := fun k => pay7_second (keys x1 x2) (tileAt x0 (s.val / 128)) k ⟨s.val % 128, Nat.mod_lt _ (by omega)⟩
  dsimp only at p1 p2 ⊢
  simp only [p1, p2, lam_at, keys_at, vals_at, hq]

end Cert.Attn

end
-- ==== Proof.Attn.Final.lean ====
/- The attention's result array after the kernel's run: every token's row in each head is `row` of its query. -/
module

public import proofs.«01_k».proof.Proof.Attn.Frame
public import proofs.«01_k».proof.Proof.Attn.Val
public import Idealize.ShloMosaic.Lib.Pipeline.ValueKit

@[expose] public section

set_option maxRecDepth 16384

noncomputable section

namespace Cert.Attn

open Idealize.ShloMosaic Idealize.ShloMosaic.TcCoe Idealize.ShloMosaic.Tactic
open Idealize.SL.Sem Cert.KernelIdeal Cert.KernelIdeal.Gen

variable (m : (ℓ : Loc nD τ sig) → Buf (Elt Ideal) ℓ) (c : Dev nD)

/-- Which block each window holds at each grid point. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, t.val % 4, 0]
    ∧ win0_4.index t = ![t.val / 4, t.val % 4, 0] ∧ win0_5.index t = ![0, 0] ∧ win0_6.index t = ![0, 0]
    ∧ win0_7.index t = ![t.val / 4, 0, t.val % 4] :=
  (by decide +kernel : ∀ t : Fin grid0.N, _)

/-- A row of the result, from the whole arrays: token `s` of batch `b`, head `h`. -/
def rowOf (Q Kx : FVec Ideal S4x8192x512 .bf16) (Vx : FVec Ideal S4x512x8192 .bf16) (Kc : FVec Ideal S4x256x512 .bf16)
    (Vc : FVec Ideal S4x512x256 .bf16) (l : FVec Ideal S4x64 .f32) (g : FVec Ideal S1x128 .f32) (b : Fin 4) (s : Fin 8192)
    (h : Fin 4) : Fin 128 → EReal :=
  row (fun j => Q (ix3 b s ⟨h.val * 128 + j.val, by omega⟩)) (fun k j => Kx (ix3 b k ⟨h.val * 128 + j.val, by omega⟩))
    (fun k j => Kc (ix3 b k ⟨h.val * 128 + j.val, by omega⟩)) (fun d k => Vx (ix3 b ⟨h.val * 128 + d.val, by omega⟩ k))
    (fun d k => Vc (ix3 b ⟨h.val * 128 + d.val, by omega⟩ k)) (fun i j => l (ix2 i j)) (fun d => g (ix2 0 d))

/-- The result: column `j` belongs to head `j / 128`. -/
def G (i : S4x8192x512.Idx) : EReal :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) ⟨(i 2).val / 128, by have : (i 2).val < 512 := (i 2).isLt; omega⟩
    ⟨(i 2).val % 128, Nat.mod_lt _ (by omega)⟩

/-- Rows of equal operands are equal. -/
theorem row_congr {q q' : Fin 128 → EReal} {kx kx' : Fin 8192 → Fin 128 → EReal} {kc kc' : Fin 256 → Fin 128 → EReal}
    {vx vx' : Fin 128 → Fin 8192 → EReal} {vc vc' : Fin 128 → Fin 256 → EReal} {l l' : Fin 4 → Fin 64 → EReal}
    {g g' : Fin 128 → EReal} {d d' : Fin 128} (h0 : ∀ j, q j = q' j) (h1 : ∀ k j, kx k j = kx' k j)
    (h2 : ∀ k j, kc k j = kc' k j) (h3 : ∀ d k, vx d k = vx' d k) (h4 : ∀ d k, vc d k = vc' d k)
    (h5 : ∀ i j, l i j = l' i j) (h6 : ∀ d, g d = g' d) (h7 : d = d') :
    row q kx kc vx vc l g d = row q' kx' kc' vx' vc' l' g' d' := by
  obtain rfl : q = q' := funext h0
  obtain rfl : kx = kx' := funext fun k => funext (h1 k)
  obtain rfl : kc = kc' := funext fun k => funext (h2 k)
  obtain rfl : vx = vx' := funext fun k => funext (h3 k)
  obtain rfl : vc = vc' := funext fun k => funext (h4 k)
  obtain rfl : l = l' := funext fun k => funext (h5 k)
  obtain rfl : g = g' := funext h6
  rw [h7]

/-- A block's output is the result at the block's rows and head. -/
theorem point (t : Fin cfg0.N) (y : S1x8192x128.Idx) : outsAt m c t y = G m c (((cfg0.win 7).blk t).view.emb y) := by
  have ht : t.val < 16 := t.isLt
  obtain ⟨s, d, rfl⟩ : ∃ (s : Fin 8192) (d : Fin 128), y = ix3 (n0 := 1) 0 s d :=
    ⟨y 1, y 2, (eq_ix3 y).trans (congrArg (fun z => ix3 z (y 1) (y 2)) (Subsingleton.elim _ _))⟩
  unfold outsAt G rowOf
  rw [target_at]
  refine row_congr (fun j => ?_) (fun k j => ?_) (fun k j => ?_) (fun d k => ?_) (fun d k => ?_) (fun i j => ?_) (fun d => ?_) ?_
  case refine_8 => exact Fin.ext (by show d.val = _; blk_simp [idx t]; show d.val = (t.val % 4 * 128 + d.val) % 128; omega)
  all_goals blk_ext [iblk, V, idx t]

/-- The result array after the run. -/
theorem final : (dats m 0 c).arrAt 7 cfg0.N = G m c := by
  refine (dats m 0 c).arrAt_eq_of_covers 7 _ (by decide +kernel) fun t _ y => ?_
  blk_simp
  rw [after0_7]
  exact point m c t y

end Cert.Attn

end
-- ==== Proof.Attn.Ref.lean ====
/- The attention's reference, read at an index: the values' sum with the difference of two softmaxes, normed over the head. -/
module

public import proofs.«01_k».proof.Proof.Attn.Spec
public import proofs.«01_k».proof.Proof.Gen.ReferenceIdeal.Run
public import Idealize.ShloMosaic.Lib.Pointwise
public import Idealize.ShloMosaic.Lib.ValueIdxCore

@[expose] public section

set_option maxRecDepth 16384

noncomputable section

namespace Cert.ReferenceIdeal.Attn

open Cert.ReferenceIdeal Cert.ReferenceIdeal.Gen Cert.Attn
open Idealize.ShloMosaic Idealize.ShloMosaic.TcCoe Idealize.SL.Sem Idealize.ShloMosaic.Tactic

/-- The weight of the second attention. -/
def lamT (l : FVec Ideal S4x64 .f32) : FVec Ideal S_ .f32 :=
  addf (subf (Host.exp (Host.reduceAdd (mulf (shapeCast S64 (extractStridedSlice S1x64 ![0, 0] l slices_S4x64_S1x64_0_0) shapeCasts_S1x64_S64)
      (shapeCast S64 (extractStridedSlice S1x64 ![1, 0] l slices_S4x64_S1x64_1_0) shapeCasts_S1x64_S64))
      (constant S_ .f32 0x00000000#32) reducesTo_S64_S_d0 h_S_))
    (Host.exp (Host.reduceAdd (mulf (shapeCast S64 (extractStridedSlice S1x64 ![2, 0] l slices_S4x64_S1x64_2_0) shapeCasts_S1x64_S64)
      (shapeCast S64 (extractStridedSlice S1x64 ![3, 0] l slices_S4x64_S1x64_3_0) shapeCasts_S1x64_S64))
      (constant S_ .f32 0x00000000#32) reducesTo_S64_S_d0 h_S_)))
    (constant S_ .f32 0x3EB60549#32)

/-- The weight, spread over the scores' array. -/
theorem lamT_at (l : FVec Ideal S4x64 .f32) (i : S4x4x8192x8448.Idx) :
    broadcastInDim S4x4x8192x8448 ![] bcast_S_S4x4x8192x8448 (lamT l) i = lamNum fun i j => l (ix2 i j) := by
  obtain ⟨b, h, s, k, rfl⟩ : ∃ (b : Fin 4) (h : Fin 4) (s : Fin 8192) (k : Fin 8448), i = ix4 b h s k :=
    ⟨i 0, i 1, i 2, i 3, eq_ix4 i⟩
  pointwise [lamT, lamNum]

/-- The keys: the context's, then the sequence's. -/
def keysT (Kc : FVec Ideal S4x256x512 .bf16) (Kx : FVec Ideal S4x8192x512 .bf16) : FVec Ideal S4x8448x4x2x64 .f32 :=
  shapeCast S4x8448x4x2x64 (extf .f32 (concatenate S4x8448x512 1 [⟨S4x256x512, Kc⟩, ⟨S4x8192x512, Kx⟩]
    concatenates_S4x256x512_S4x8192x512_S4x8448x512_d1) bitsLt_bf16_f32) shapeCasts_S4x8448x512_S4x8448x4x2x64

/-- A key at a lane: head `h`, half `e`, lane `j`. -/
theorem keysT_at (Kc : FVec Ideal S4x256x512 .bf16) (Kx : FVec Ideal S4x8192x512 .bf16) (b : Fin 4) (k : Fin 8448) (h : Fin 4)
    (e : Fin 2) (j : Fin 64) : keysT Kc Kx (ix5 b k h e j)
      = join (fun k => Kc (ix3 b k ⟨h.val * 128 + (64 * e.val + j.val), by omega⟩))
        (fun k => Kx (ix3 b k ⟨h.val * 128 + (64 * e.val + j.val), by omega⟩)) k := by
  have hc : h.val * 128 + (64 * e.val + j.val) = h.val * 128 + e.val * 64 + j.val := by omega
  simp only [hc]
  pointwise [keysT, join]

/-- The values: the context's, then the sequence's, tokens along the lanes. -/
def valsT (Vc : FVec Ideal S4x512x256 .bf16) (Vx : FVec Ideal S4x512x8192 .bf16) : FVec Ideal S4x4x128x8448 .f32 :=
  shapeCast S4x4x128x8448 (extf .f32 (concatenate S4x512x8448 2 [⟨S4x512x256, Vc⟩, ⟨S4x512x8192, Vx⟩]
    concatenates_S4x512x256_S4x512x8192_S4x512x8448_d2) bitsLt_bf16_f32) shapeCasts_S4x512x8448_S4x4x128x8448

/-- A value at a token. -/
theorem valsT_at (Vc : FVec Ideal S4x512x256 .bf16) (Vx : FVec Ideal S4x512x8192 .bf16) (b : Fin 4) (h : Fin 4) (d : Fin 128)
    (k : Fin 8448) : valsT Vc Vx (ix4 b h d k)
      = join (fun k => Vc (ix3 b ⟨h.val * 128 + d.val, by omega⟩ k)) (fun k => Vx (ix3 b ⟨h.val * 128 + d.val, by omega⟩ k)) k := by
  pointwise [valsT, join]

/-- The queries, by head and half. -/
def qsT (Q : FVec Ideal S4x8192x512 .bf16) : FVec Ideal S4x8192x4x2x64 .f32 :=
  shapeCast S4x8192x4x2x64 (extf .f32 Q bitsLt_bf16_f32) shapeCasts_S4x8192x512_S4x8192x4x2x64

/-- A query at a lane. -/
theorem qsT_at (Q : FVec Ideal S4x8192x512 .bf16) (b : Fin 4) (s : Fin 8192) (h : Fin 4) (e : Fin 2) (j : Fin 64) :
    qsT Q (ix5 b s h e j) = Q (ix3 b s ⟨h.val * 128 + (64 * e.val + j.val), by omega⟩) := by
  have hc : h.val * 128 + (64 * e.val + j.val) = h.val * 128 + e.val * 64 + j.val := by omega
  simp only [hc]
  pointwise [qsT]

/-- The first half's scores, times the logarithm of two. -/
def scoreT0 (q : FVec Ideal S4x8192x4x2x64 .f32) (k : FVec Ideal S4x8448x4x2x64 .f32) : FVec Ideal S4x4x8192x8448 .f32 :=
  mulf (Host.dotGeneral dot_S4x8192x4x64_S4x8448x4x64_S4x4x8192x8448_3_3_1_1_02_02 none
    (shapeCast S4x8192x4x64 (extractStridedSlice S4x8192x4x1x64 ![0, 0, 0, 0, 0] q slices_S4x8192x4x2x64_S4x8192x4x1x64_0_0_0_0_0)
      shapeCasts_S4x8192x4x1x64_S4x8192x4x64)
    (shapeCast S4x8448x4x64 (extractStridedSlice S4x8448x4x1x64 ![0, 0, 0, 0, 0] k slices_S4x8448x4x2x64_S4x8448x4x1x64_0_0_0_0_0)
      shapeCasts_S4x8448x4x1x64_S4x8448x4x64))
    (broadcastInDim S4x4x8192x8448 ![] bcast_S_S4x4x8192x8448 (Host.log (constant S_ .f32 0x40000000#32)))

/-- The second half's scores, times the logarithm of two. -/
def scoreT1 (q : FVec Ideal S4x8192x4x2x64 .f32) (k : FVec Ideal S4x8448x4x2x64 .f32) : FVec Ideal S4x4x8192x8448 .f32 :=
  mulf (Host.dotGeneral dot_S4x8192x4x64_S4x8448x4x64_S4x4x8192x8448_3_3_1_1_02_02 none
    (shapeCast S4x8192x4x64 (extractStridedSlice S4x8192x4x1x64 ![0, 0, 0, 1, 0] q slices_S4x8192x4x2x64_S4x8192x4x1x64_0_0_0_1_0)
      shapeCasts_S4x8192x4x1x64_S4x8192x4x64)
    (shapeCast S4x8448x4x64 (extractStridedSlice S4x8448x4x1x64 ![0, 0, 0, 1, 0] k slices_S4x8448x4x2x64_S4x8448x4x1x64_0_0_0_1_0)
      shapeCasts_S4x8448x4x1x64_S4x8448x4x64))
    (broadcastInDim S4x4x8192x8448 ![] bcast_S_S4x4x8192x8448 (Host.log (constant S_ .f32 0x40000000#32)))

/-- A first-half score at an index. -/
theorem scoreT0_at (q : FVec Ideal S4x8192x4x2x64 .f32) (k : FVec Ideal S4x8448x4x2x64 .f32) (b h : Fin 4) (s : Fin 8192)
    (t : Fin 8448) : scoreT0 q k (ix4 b h s t) = (∑ j : Fin 64, q (ix5 b s h 0 j) * k (ix5 b t h 0 j)) * ln2 := by
  pointwise [scoreT0, ln2]

/-- A second-half score at an index. -/
theorem scoreT1_at (q : FVec Ideal S4x8192x4x2x64 .f32) (k : FVec Ideal S4x8448x4x2x64 .f32) (b h : Fin 4) (s : Fin 8192)
    (t : Fin 8448) : scoreT1 q k (ix4 b h s t) = (∑ j : Fin 64, q (ix5 b s h 1 j) * k (ix5 b t h 1 j)) * ln2 := by
  pointwise [scoreT1, ln2]

/-- The greatest score of each query. -/
def maxT (S : FVec Ideal S4x4x8192x8448 .f32) : FVec Ideal S4x4x8192 .f32 :=
  Host.reduce FloatOps.maximumf S (constant S_ .f32 0xFF800000#32) reducesTo_S4x4x8192x8448_S4x4x8192_d3 h_S_

/-- The greatest score of a query. -/
theorem maxT_at (S : FVec Ideal S4x4x8192x8448 .f32) (b h : Fin 4) (s : Fin 8192) :
    maxT S (ix3 b h s) = peak fun k => S (ix4 b h s k) := by
  unfold peak
  pointwise [maxT]

/-- The number taken off a query's scores: the greatest score, from minus infinity on. -/
def topT (M : FVec Ideal S4x4x8192 .f32) : FVec Ideal S4x4x8192 .f32 :=
  maximumf (broadcastInDim S4x4x8192 ![] bcast_S_S4x4x8192 (constant S_ .f32 0xFF800000#32)) M

/-- That number of a query. -/
theorem topT_at (M : FVec Ideal S4x4x8192 .f32) (b h : Fin 4) (s : Fin 8192) :
    topT M (ix3 b h s) = max (Ideal.ofBits .f32 0xFF800000#32) (M (ix3 b h s)) := by
  pointwise [topT]

/-- The exponentials of the scores, `M` taken off. -/
def lessT (S : FVec Ideal S4x4x8192x8448 .f32) (M : FVec Ideal S4x4x8192 .f32) : FVec Ideal S4x4x8192x8448 .f32 :=
  Host.exp (subf S (broadcastInDim S4x4x8192x8448 ![0, 1, 2, 3] bcast_S4x4x8192x1_S4x4x8192x8448_0_1_2_3
    (broadcastInDim S4x4x8192x1 ![0, 1, 2] bcast_S4x4x8192_S4x4x8192x1_0_1_2 M)))

/-- An exponential at an index. -/
theorem lessT_at (S : FVec Ideal S4x4x8192x8448 .f32) (M : FVec Ideal S4x4x8192 .f32) (b h : Fin 4) (s : Fin 8192)
    (t : Fin 8448) : lessT S M (ix4 b h s t) = Ideal.exp (S (ix4 b h s t) - M (ix3 b h s)) := by
  pointwise [lessT]

/-- The exponentials of the scores, the greatest taken off. -/
def expT (S : FVec Ideal S4x4x8192x8448 .f32) : FVec Ideal S4x4x8192x8448 .f32 := lessT S (topT (maxT S))

/-- An exponential at an index, from the scores. -/
theorem expT_at (S : FVec Ideal S4x4x8192x8448 .f32) (b h : Fin 4) (s : Fin 8192) (t : Fin 8448) :
    expT S (ix4 b h s t) = Ideal.exp (S (ix4 b h s t)
      - max (Ideal.ofBits .f32 0xFF800000#32) (peak fun k => S (ix4 b h s k))) := by
  rw [expT, lessT_at, topT_at, maxT_at]

/-- The softmax along the keys. -/
def softT (E : FVec Ideal S4x4x8192x8448 .f32) : FVec Ideal S4x4x8192x8448 .f32 :=
  Host.divf E (broadcastInDim S4x4x8192x8448 ![0, 1, 2, 3] bcast_S4x4x8192x1_S4x4x8192x8448_0_1_2_3
    (broadcastInDim S4x4x8192x1 ![0, 1, 2] bcast_S4x4x8192_S4x4x8192x1_0_1_2
      (Host.reduceAdd E (constant S_ .f32 0x00000000#32) reducesTo_S4x4x8192x8448_S4x4x8192_d3 h_S_)))

/-- The softmax at an index. -/
theorem softT_at (E : FVec Ideal S4x4x8192x8448 .f32) (b h : Fin 4) (s : Fin 8192) (t : Fin 8448) :
    softT E (ix4 b h s t) = Ideal.div (E (ix4 b h s t)) (∑ k : Fin 8448, E (ix4 b h s k)) := by
  pointwise [softT]

/-- The values' sums with the difference of the two softmaxes. -/
def mixT (P1 P2 : FVec Ideal S4x4x8192x8448 .f32) (lam : FVec Ideal S_ .f32) (V : FVec Ideal S4x4x128x8448 .f32) :
    FVec Ideal S4x8192x4x128 .f32 :=
  transpose S4x8192x4x128 [0, 3, 1, 2] (Host.dotGeneral dot_S4x4x128x8448_S4x4x8192x8448_S4x4x128x8192_3_3_2_2_01_01 none V
    (subf P1 (mulf (broadcastInDim S4x4x8192x8448 ![] bcast_S_S4x4x8192x8448 lam) P2))) transposes_S4x4x128x8192_S4x8192x4x128_0_3_1_2

/-- A sum at an index. -/
theorem mixT_at (P1 P2 : FVec Ideal S4x4x8192x8448 .f32) (l : FVec Ideal S4x64 .f32) (V : FVec Ideal S4x4x128x8448 .f32)
    (b h : Fin 4) (s : Fin 8192) (d : Fin 128) : mixT P1 P2 (lamT l) V (ix4 b s h d)
      = ∑ k : Fin 8448, V (ix4 b h d k) * (P1 (ix4 b h s k) - (lamNum fun i j => l (ix2 i j)) * P2 (ix4 b h s k)) := by
  simp only [← lamT_at l (ix4 (0 : Fin 4) (0 : Fin 4) (0 : Fin 8192) (0 : Fin 8448))]
  pointwise [mixT]

/-- The norm over a head, and the heads side by side. -/
def normT (O : FVec Ideal S4x8192x4x128 .f32) (g : FVec Ideal S1x128 .f32) : FVec Ideal S4x8192x512 .bf16 :=
  truncf .bf16 (shapeCast S4x8192x512 (mulf (mulf (mulf O (broadcastInDim S4x8192x4x128 ![0, 1, 2, 3] bcast_S4x8192x4x1_S4x8192x4x128_0_1_2_3
    (Host.rsqrt (addf (Host.divf (broadcastInDim S4x8192x4x1 ![0, 1, 2] bcast_S4x8192x4_S4x8192x4x1_0_1_2
        (Host.reduceAdd (mulf O O) (constant S_ .f32 0x00000000#32) reducesTo_S4x8192x4x128_S4x8192x4_d3 h_S_))
      (broadcastInDim S4x8192x4x1 ![] bcast_S_S4x8192x4x1 (constant S_ .f32 0x43000000#32)))
      (broadcastInDim S4x8192x4x1 ![] bcast_S_S4x8192x4x1 (constant S_ .f32 0x358637BD#32))))))
    (broadcastInDim S4x8192x4x128 ![0, 1, 2, 3] bcast_S1x1x1x128_S4x8192x4x128_0_1_2_3
      (broadcastInDim S1x1x1x128 ![3] bcast_S128_S1x1x1x128_3 (shapeCast S128 g shapeCasts_S1x128_S128))))
    (broadcastInDim S4x8192x4x128 ![] bcast_S_S4x8192x4x128 (constant S_ .f32 0x3F24FD5C#32)))
    shapeCasts_S4x8192x4x128_S4x8192x512) bitsLt_bf16_f32

/-- The norm at an index: column `j` belongs to head `j / 128`. -/
theorem normT_at (O : FVec Ideal S4x8192x4x128 .f32) (g : FVec Ideal S1x128 .f32) (b : Fin 4) (s : Fin 8192) (j : Fin 512) :
    normT O g (ix3 b s j) = normed (fun d => O (ix4 b s (⟨j.val / 128, by omega⟩ : Fin 4) d)) (fun d => g (ix2 0 d))
      (⟨j.val % 128, by omega⟩ : Fin 128) := by
  pointwise [normT, normed]

variable (m : (ℓ : Loc nD τ sig) → Buf (Elt Ideal) ℓ) (c : Dev nD)

/-- The reference's result, as the arrays above. -/
def whole (Q Kx : FVec Ideal S4x8192x512 .bf16) (Vx : FVec Ideal S4x512x8192 .bf16) (Kc : FVec Ideal S4x256x512 .bf16)
    (Vc : FVec Ideal S4x512x256 .bf16) (l : FVec Ideal S4x64 .f32) (g : FVec Ideal S1x128 .f32) : FVec Ideal S4x8192x512 .bf16 :=
  normT (mixT (softT (expT (scoreT0 (qsT Q) (keysT Kc Kx)))) (softT (expT (scoreT1 (qsT Q) (keysT Kc Kx)))) (lamT l) (valsT Vc Vx)) g

/-- The program's result is that array of its arguments. -/
theorem res_eq : Value.res_main_v83 m c = whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := by
  unfold Value.res_main_v83 whole normT mixT softT expT lessT topT maxT scoreT0 scoreT1 qsT keysT valsT lamT
  rfl

/-- The logit of a query and a key, from the arrays. -/
theorem logit_eq (Q : FVec Ideal S4x8192x512 .bf16) (Kc : FVec Ideal S4x256x512 .bf16) (Kx : FVec Ideal S4x8192x512 .bf16)
    (b h : Fin 4) (s : Fin 8192) (t : Fin 8448) (e : Fin 2) :
    (∑ j : Fin 64, qsT Q (ix5 b s h e j) * keysT Kc Kx (ix5 b t h e j))
      = logit (fun j => Q (ix3 b s ⟨h.val * 128 + j.val, by omega⟩))
        (fun j => join (fun k => Kc (ix3 b k ⟨h.val * 128 + j.val, by omega⟩)) (fun k => Kx (ix3 b k ⟨h.val * 128 + j.val, by omega⟩)) t) e := by
  simp only [qsT_at, keysT_at, logit]
  exact Finset.sum_congr rfl fun j _ => mul_comm _ _

/-- The softmax of scores that are logits times the logarithm of two. -/
theorem soft_at (S : FVec Ideal S4x4x8192x8448 .f32) (b h : Fin 4) (s : Fin 8192) (z : Fin 8448 → EReal)
    (hz : ∀ t, S (ix4 b h s t) = z t * ln2) (t : Fin 8448) : softT (expT S) (ix4 b h s t) = prob z t := by
  simp only [softT_at, expT_at, hz]
  rfl

/-- The reference's result at an index, where the values and the four vectors are finite: a row of the specification. -/
theorem whole_at (Q Kx : FVec Ideal S4x8192x512 .bf16) (Vx : FVec Ideal S4x512x8192 .bf16) (Kc : FVec Ideal S4x256x512 .bf16)
    (Vc : FVec Ideal S4x512x256 .bf16) (l : FVec Ideal S4x64 .f32) (g : FVec Ideal S1x128 .f32)
    (hVx : ∀ i, IsNum (Vx i)) (hVc : ∀ i, IsNum (Vc i))
    (hl : ∀ i, IsNum (l i)) (b : Fin 4) (s : Fin 8192) (j : Fin 512) (h : Fin 4) (hh : (⟨j.val / 128, by omega⟩ : Fin 4) = h) :
    whole Q Kx Vx Kc Vc l g (ix3 b s j)
      = row (fun j => Q (ix3 b s ⟨h.val * 128 + j.val, by omega⟩)) (fun k j => Kx (ix3 b k ⟨h.val * 128 + j.val, by omega⟩))
        (fun k j => Kc (ix3 b k ⟨h.val * 128 + j.val, by omega⟩)) (fun d k => Vx (ix3 b ⟨h.val * 128 + d.val, by omega⟩ k))
        (fun d k => Vc (ix3 b ⟨h.val * 128 + d.val, by omega⟩ k)) (fun i j => l (ix2 i j)) (fun d => g (ix2 0 d))
        (⟨j.val % 128, by omega⟩ : Fin 128) := by
  unfold whole row
  rw [normT_at, hh, normed_mix (isNum_lam fun i j => hl _) fun d => isNum_join (fun k => hVc _) fun k => hVx _]
  congr 1
  funext d
  rw [mixT_at, mixRef]
  refine Finset.sum_congr rfl fun k _ => ?_
  rw [valsT_at, soft_at _ _ _ _ _ (fun t => (scoreT0_at _ _ _ _ _ t).trans (congrArg (· * ln2) (logit_eq Q Kc Kx _ _ _ t 0))),
    soft_at _ _ _ _ _ (fun t => (scoreT1_at _ _ _ _ _ t).trans (congrArg (· * ln2) (logit_eq Q Kc Kx _ _ _ t 1)))]

end Cert.ReferenceIdeal.Attn

end
-- ==== Proof.Attn.Claim.lean ====
/- The differential attention: kernel and reference compute the same array where the values are finite. -/
module

public import proofs.«01_k».proof.Defs
public import proofs.«01_k».proof.Proof.Attn.Final
public import proofs.«01_k».proof.Proof.Attn.Ref
public import proofs.«01_k».proof.Proof.Gen.Pre_finite_values
public import Idealize.ShloMosaic.Lib.Claim

@[expose] public section

set_option maxRecDepth 16384

noncomputable section

namespace Cert.Proof.Attn

open Idealize.ShloMosaic Idealize.ShloMosaic.TcCoe Idealize.SL.Sem Idealize.ShloMosaic.Tactic Cert.Attn

/-- A number whose absolute value lies below infinity is neither infinity. -/
theorem isNum_of_lt {x : EReal} (h : Ideal.cmp .olt (max x (-x)) (Ideal.ofBits .f32 0x7F800000#32) = 1#1) : IsNum x := by
  have hx : max x (-x) < Ideal.ofBits .f32 0x7F800000#32 := by
    by_contra hn
    simp [Ideal.cmp, hn] at h
  have ht : Ideal.ofBits .f32 0x7F800000#32 = ⊤ := by simp [Ideal.ofBits, Ideal.ieee]
  rw [ht] at hx
  induction x using EReal.rec with
  | bot => simp at hx
  | coe r => exact ⟨r, rfl⟩
  | top => simp at hx

/-- Arrays whose precondition is all ones: the values and the four vectors hold finite numbers only. -/
theorem finite_of (Q Kx : FVec Ideal Cert.Pre_finite_values.S4x8192x512 .bf16) (Vx : FVec Ideal Cert.Pre_finite_values.S4x512x8192 .bf16)
    (Kc : FVec Ideal Cert.Pre_finite_values.S4x256x512 .bf16) (Vc : FVec Ideal Cert.Pre_finite_values.S4x512x256 .bf16)
    (l : FVec Ideal Cert.Pre_finite_values.S4x64 .f32) (g : FVec Ideal Cert.Pre_finite_values.S1x128 .f32)
    (h0 : (Cert.Pre_finite_values.fn (F := Ideal) Q Kx Vx Kc Vc l g).1 = fun _ => 1#1)
    (h1 : (Cert.Pre_finite_values.fn (F := Ideal) Q Kx Vx Kc Vc l g).2.1 = fun _ => 1#1)
    (h2 : (Cert.Pre_finite_values.fn (F := Ideal) Q Kx Vx Kc Vc l g).2.2 = fun _ => 1#1) :
    (∀ i, IsNum (Vx i)) ∧ (∀ i, IsNum (Vc i)) ∧ ∀ i, IsNum (l i) :=
  ⟨fun i => isNum_of_lt (congrFun h0 i), fun i => isNum_of_lt (congrFun h1 i), fun i => isNum_of_lt (congrFun h2 i)⟩

set_option maxHeartbeats 2000000 in
/-- Over the extended reals the attention's kernel and its reference leave the same result, from finite values and vectors. -/
theorem algebraic : Cert.algebraic_KernelIdeal_ReferenceIdeal_pre_finite_values := by
  pair_intro
  · run_from Cert.Attn.run_main m g
  · run_from Cert.ReferenceIdeal.Value.run m' g'
    refine Eq.trans ?_ (Cert.Attn.final m c).symm
    obtain ⟨h0, h1, h2, h3, h4, h5, h6⟩ := hagree c
    obtain ⟨p0, p1, p2⟩ := hpre c
    obtain ⟨q0, q1, q2⟩ := finite_of _ _ _ _ _ _ _ p0 p1 p2
    funext i
    obtain ⟨b, s, j, rfl⟩ : ∃ (b : Fin 4) (s : Fin 8192) (j : Fin 512), i = ix3 b s j := ⟨i 0, i 1, i 2, eq_ix3 i⟩
    rw [Cert.ReferenceIdeal.Attn.res_eq, h0, h1, h2, h3, h4, h5, h6]
    exact Cert.ReferenceIdeal.Attn.whole_at _ _ _ _ _ _ _ q0 q1 q2 b s j _ rfl

/-- The reference leaves its arguments and counters as they were. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same under the precondition. -/
theorem frame_ri_pre : Cert.quiescent_ReferenceIdeal_pre_finite_values := fun m g _ => frame_ri m g trivial

end Cert.Proof.Attn

end
-- ==== Proof.Ffn.Frames.lean ====
/- The frames of the macaron half steps' references: they run, and leave their arguments and every counter as they were. -/
module

public import proofs.«01_k».proof.Defs
public import proofs.«01_k».proof.Proof.Gen.Reference2Ideal.Run
public import proofs.«01_k».proof.Proof.Gen.Reference3Ideal.Run
public import Idealize.ShloMosaic.Lib.Claim

@[expose] public section

set_option maxRecDepth 16384

noncomputable section

namespace Cert.Proof.Ffn

open Idealize.ShloMosaic Idealize.ShloMosaic.TcCoe Idealize.SL.Sem Idealize.ShloMosaic.Tactic

/-- The frame of the half step's reference. -/
theorem frame_ri2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The frame of the joined call's reference. -/
theorem frame_ri3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

end Cert.Proof.Ffn

end
-- ==== Proof.Ffn.Row.lean ====
/- One row of the feed-forward half step, over the extended reals: the pre-norm with its shift and scale, the
   gated hidden layer, the output product, and the gated residual of the post-norm. Both the kernels and their
   references are shown to compute `outRow` at every row. -/
module

public import Idealize.ShloMosaic.Lib.Pointwise

@[expose] public section

set_option maxRecDepth 16384

noncomputable section

namespace Cert.Ffn

open Idealize.ShloMosaic

/-- The root-mean-square norm of a row of 1024 numbers, times the weight `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The normed row, scaled by `1 + m1` and shifted by `m0`. -/
def hRow (x g m0 m1 : Fin 1024 → EReal) (j : Fin 1024) : EReal := rms x g j * (1 + m1 j) + m0 j

/-- `t · sigmoid t`. -/
def silu (t : EReal) : EReal := t * Ideal.div 1 (1 + Ideal.exp (-t))

/-- The hidden layer at column `c`: the gate's `silu` times the second half's column. -/
def actRow (h : Fin 1024 → EReal) (W : Fin 1024 → Fin 5632 → EReal) (c : Fin 2816) : EReal :=
  silu (∑ k, h k * W k ⟨c.val, by omega⟩) * ∑ k, h k * W k ⟨2816 + c.val, by omega⟩

/-- The output product's row. -/
def yRow (a : Fin 2816 → EReal) (W : Fin 2816 → Fin 1024 → EReal) (j : Fin 1024) : EReal := ∑ c, a c * W c j

/-- The half step of one row: `x + (m2 / 2) · norm (swiglu (pre-norm x))`. -/
def outRow (x g gp m0 m1 m2 : Fin 1024 → EReal) (W : Fin 1024 → Fin 5632 → EReal) (W2 : Fin 2816 → Fin 1024 → EReal)
    (j : Fin 1024) : EReal :=
  x j + Ideal.ofBits .f32 0x3F000000#32 * m2 j * rms (yRow (actRow (hRow x g m0 m1) W) W2) gp j

/-- The kernel's sigmoid argument: `0 − t` is `−t`. -/
theorem silu_zero_sub (t : EReal) : t * Ideal.div 1 (1 + Ideal.exp (0 - t)) = silu t := by
  rw [zero_sub]; rfl

end Cert.Ffn

end
-- ==== Proof.Ffn.Point2.lean ====
/- What the payloads of the first half step hold at an index. -/
module

public import proofs.«01_k».proof.Proof.Ffn.Row
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem Idealize.ShloMosaic.Tactic

/-- The pre-norm's payload at an index is `hRow` of the row it reads. -/
theorem h_at (v0 : Vec Ideal S512x1024 .f32) (v1 : Vec Ideal S1x1024 .f32) (v14 v20 : Vec Ideal S1x1x1024 .f32)
    (r : Fin 512) (k : Fin 1024) :
    k0_pay2 v0 v1 v14 v20 (ix2 r k) = hRow (fun k => v0 (ix2 r k)) (fun k => v1 (ix2 0 k)) (fun k => v20 (ix3 0 0 k))
      (fun k => v14 (ix3 0 0 k)) k := by
  pointwise [k0_pay2, hRow, rms]

/-- One tile of the hidden layer at an index. -/
theorem act_at (h : FVec Ideal S512x1024 .bf16) (wg wu : Vec Ideal S1x1x1024x256 .bf16) (r : Fin 512) (c : Fin 256) :
    k0_pay7 h wg wu (ix2 r c) = silu (∑ k : Fin 1024, h (ix2 r k) * wg (ix4 0 0 k c))
      * ∑ k : Fin 1024, h (ix2 r k) * wu (ix4 0 0 k c) := by
  rw [← silu_zero_sub]
  pointwise [k0_pay7]

/-- The residual's payload at an index, for any hidden rows `v493`. -/
theorem out_at (v259 : Vec Ideal S512x1024 .f32) (v493 : Vec Ideal S512x2816 .bf16) (v494 : Vec Ideal S1x1x2816x1024 .bf16)
    (v497 : Vec Ideal S1x1x1024 .f32) (v501 : Vec Ideal S1x1024 .f32) (r : Fin 512) (j : Fin 1024) :
    k0_pay1 v259 v493 v494 v497 v501 (ix2 r j) = v259 (ix2 r j) + Ideal.ofBits .f32 0x3F000000#32 * v497 (ix3 0 0 j)
      * rms (yRow (fun c => v493 (ix2 r c)) fun c k => v494 (ix4 0 0 c k)) (fun k => v501 (ix2 0 k)) j := by
  pointwise [k0_pay1, rms, yRow]

end Cert.Kernel2Ideal.Ffn

end
-- ==== Proof.Ffn.Blk2.lean ====
/- What one grid point of the first half step leaves in its output block, as a function of its input blocks. -/
module

public import proofs.«01_k».proof.Proof.Ffn.Point2

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem Idealize.ShloMosaic.Tactic

/-- The hidden layer of a block's 1024 rows, as one function of the block's inputs. -/
def Act (x0 : Vec Ideal S1024x1024 .f32) (x1 : Vec Ideal S1x9x1024 .f32) (x2 : Vec Ideal S1x1024 .f32)
    (x4 : Vec Ideal S1x1x1024x5632 .bf16) (i : S1024x2816.Idx) : EReal :=
  actRow (hRow (fun k => x0 (ix2 (i 0) k)) (fun k => x2 (ix2 0 k)) (fun k => x1 (ix3 0 0 k)) (fun k => x1 (ix3 0 1 k)))
    (fun k c => x4 (ix4 0 0 k c)) (i 1)

/-- A block's output, as one function of the block's inputs. -/
def Out (x0 : Vec Ideal S1024x1024 .f32) (x1 : Vec Ideal S1x9x1024 .f32) (x2 x3 : Vec Ideal S1x1024 .f32)
    (x4 : Vec Ideal S1x1x1024x5632 .bf16) (x5 : Vec Ideal S1x1x2816x1024 .bf16) (j : S1024x1024.Idx) : EReal :=
  outRow (fun k => x0 (ix2 (j 0) k)) (fun k => x2 (ix2 0 k)) (fun k => x3 (ix2 0 k)) (fun k => x1 (ix3 0 0 k))
    (fun k => x1 (ix3 0 1 k)) (fun k => x1 (ix3 0 2 k)) (fun k c => x4 (ix4 0 0 k c)) (fun c k => x5 (ix4 0 0 c k)) (j 1)

/-- The residual of one row: when its hidden row is that of `Act`, the payload is `Out`. -/
theorem out_of_act (x0 : Vec Ideal S1024x1024 .f32) (x1 : Vec Ideal S1x9x1024 .f32) (x2 x3 : Vec Ideal S1x1024 .f32)
    (x4 : Vec Ideal S1x1x1024x5632 .bf16) (x5 : Vec Ideal S1x1x2816x1024 .bf16) (v259 : Vec Ideal S512x1024 .f32)
    (v493 : Vec Ideal S512x2816 .bf16) (v497 : Vec Ideal S1x1x1024 .f32) (r : Fin 512) (R j : Fin 1024)
    (hv : v259 (ix2 r j) = x0 (ix2 R j)) (hm : v497 (ix3 0 0 j) = x1 (ix3 0 2 j))
    (hA : ∀ c : Fin 2816, v493 (ix2 r c) = Act x0 x1 x2 x4 (ix2 R c)) :
    k0_pay1 v259 v493 x5 v497 x3 (ix2 r j) = Out x0 x1 x2 x3 x4 x5 (ix2 R j) := by
  rw [out_at, hv, hm]
  simp only [hA]
  rfl

/-- A tile of the hidden layer, at the place where it is stored: `Act` there. -/
theorem act_tile (x0 : Vec Ideal S1024x1024 .f32) (x1 : Vec Ideal S1x9x1024 .f32) (x2 : Vec Ideal S1x1024 .f32)
    (x4 : Vec Ideal S1x1x1024x5632 .bf16) (v0 : Vec Ideal S512x1024 .f32) (v14 v20 : Vec Ideal S1x1x1024 .f32)
    (wg wu : Vec Ideal S1x1x1024x256 .bf16) (r : Fin 512) (c : Fin 256) (R : Fin 1024) (C : Fin 2816)
    (h0 : ∀ k : Fin 1024, v0 (ix2 r k) = x0 (ix2 R k))
    (h14 : ∀ k : Fin 1024, v14 (ix3 0 0 k) = x1 (ix3 0 1 k)) (h20 : ∀ k : Fin 1024, v20 (ix3 0 0 k) = x1 (ix3 0 0 k))
    (hg : ∀ k : Fin 1024, wg (ix4 0 0 k c) = x4 (ix4 0 0 k ⟨C.val, by omega⟩))
    (hu : ∀ k : Fin 1024, wu (ix4 0 0 k c) = x4 (ix4 0 0 k ⟨2816 + C.val, by omega⟩)) :
    k0_pay7 (k0_pay2 v0 x2 v14 v20) wg wu (ix2 r c) = Act x0 x1 x2 x4 (ix2 R C) := by
  rw [act_at]
  simp only [h_at, hg, hu, h0, h14, h20]
  rfl

/-- The rows at equal row numbers. -/
theorem row_congr (x0 : Vec Ideal S1024x1024 .f32) (k : Fin 1024) {a b : Fin 1024} (h : a.val = b.val) :
    x0 (ix2 a k) = x0 (ix2 b k) := by
  rw [Fin.ext h]

/-- The first weight at equal columns. -/
theorem col_congr (x4 : Vec Ideal S1x1x1024x5632 .bf16) (k : Fin 1024) {a b : ℕ} (ha : a < 5632) (hb : b < 5632) (h : a = b) :
    x4 (ix4 0 0 k (⟨a, ha⟩ : Fin 5632)) = x4 (ix4 0 0 k (⟨b, hb⟩ : Fin 5632)) := by
  subst h; rfl

/-- Where a load of 512 whole rows at row `o` reads. -/
theorem rows_idx (o : ℕ) (inb : ∀ a, (![o, 0] : Fin 2 → ℕ) a + (![512, 2816] : Fin 2 → ℕ) a ≤ S1024x2816.size a) (r : Fin 512)
    (c : Fin 2816) (R : Fin 1024) (h : R.val = o + r.val) :
    (Rect.unit (s := S1024x2816) ![o, 0] ![512, 2816] inb).toLoadRect.idx (ix2 r c) = ix2 R c := by
  funext a
  apply Fin.ext
  match a with
  | ⟨0, _⟩ => show o + 1 * r.val = R.val; omega
  | ⟨1, _⟩ => show 0 + 1 * c.val = c.val; omega

/-- Tiles of the upper 512 rows, which with the lower half's rectangle tile the whole buffer, cover every upper index. -/
theorem cover_upper (L : List (View.Piece (Elt Ideal) S1024x2816 .bf16))
    (h : View.Piece.tiledBy (L ++ [⟨Rect.unit ![512, 0] ![512, 2816] inb_S1024x2816_S512x2816_512_0, fun _ => (0 : EReal)⟩]) ![512, 256] = true)
    (y : S1024x2816.Idx) (hy : (y 0).val < 512) : ∃ p ∈ L, y ∈ p.1.set := by
  obtain ⟨p, hp, hm⟩ := View.cover_of_tiledBy _ _ h y
  rcases List.mem_append.mp hp with hp | hp
  · exact ⟨p, hp, hm⟩
  · rw [List.mem_singleton] at hp
    subst hp
    rw [Rect.mem_set_unit] at hm
    have := (hm 0).1
    exact absurd this (by show ¬ (512 ≤ (y 0).val); omega)

set_option maxHeartbeats 2000000 in
/-- What the body leaves in its output block is `Out` of its input blocks. -/
theorem block_at (c : Dev nD) (i : grid0.Coords) (arg1 : Memref sig .tc .vmem S1024x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1x1024x5632 .bf16) (harg5 : arg5.IsWhole) (arg6 : Memref sig .tc .vmem S1x1x2816x1024 .bf16) (harg6 : arg6.IsWhole) (arg7 : Memref sig .tc .vmem S1024x1024 .f32) (harg7 : arg7.IsWhole) (arg8 : Memref sig .tc .vmem S1024x2816 .bf16) (harg8 : arg8.IsWhole)
    (x0 : Vec Ideal S1024x1024 .f32) (x1 : Vec Ideal S1x9x1024 .f32) (x2 x3 : Vec Ideal S1x1024 .f32)
    (x4 : Vec Ideal S1x1x1024x5632 .bf16) (x5 : Vec Ideal S1x1x2816x1024 .bf16) (y : S1024x1024.Idx) :
    out0_A_6 c i arg1 harg1 arg2 harg2 arg3 harg3 arg4 harg4 arg5 harg5 arg6 harg6 arg7 harg7 arg8 harg8 x0 x1 x2 x3 x4 x5 y
      = Out x0 x1 x2 x3 x4 x5 y := by
  frame_out [View.readCov_eq_canon']
  canon_tiles x h
  case piece0 =>
    obtain ⟨r, q, rfl⟩ : ∃ (r : Fin 512) (q : Fin 1024), x = ix2 r q := ⟨x 0, x 1, eq_ix2 x⟩
    obtain ⟨R, Q, rfl⟩ : ∃ (R Q : Fin 1024), y = ix2 R Q := ⟨y 0, y 1, eq_ix2 y⟩
    simp only [ix2_0, ix2_1] at h0 h1 x0_lt x1_lt
    obtain rfl : Q = q := Fin.ext h1
    refine out_of_act x0 x1 x2 x3 x4 x5 _ _ _ r R Q ?_ ?_ ?_
    · pointwise; exact row_congr x0 _ (by simp; omega)
    · pointwise
    · intro c
      beta_reduce
      rw [rows_idx 512 _ r c R (by omega)]
      canon_tiles z g
      all_goals
        obtain ⟨a, b, rfl⟩ : ∃ (a : Fin 512) (b : Fin 256), z = ix2 a b := ⟨z 0, z 1, eq_ix2 z⟩
        simp only [ix2_0, ix2_1] at g0 g1 z0_lt z1_lt
        first
        | (exfalso; omega)
        | (refine act_tile x0 x1 x2 x4 _ _ _ _ _ a b R c (fun k => ?_) (fun k => ?_) (fun k => ?_) (fun k => ?_) (fun k => ?_)
           · pointwise; exact row_congr x0 _ (by simp; omega)
           · pointwise
           · pointwise
           · pointwise; exact col_congr x4 k _ _ (by omega)
           · pointwise; exact col_congr x4 k _ _ (by omega))
  case piece1 =>
    obtain ⟨r, q, rfl⟩ : ∃ (r : Fin 512) (q : Fin 1024), x = ix2 r q := ⟨x 0, x 1, eq_ix2 x⟩
    obtain ⟨R, Q, rfl⟩ : ∃ (R Q : Fin 1024), y = ix2 R Q := ⟨y 0, y 1, eq_ix2 y⟩
    simp only [ix2_0, ix2_1] at h0 h1 x0_lt x1_lt
    obtain rfl : Q = q := Fin.ext h1
    refine out_of_act x0 x1 x2 x3 x4 x5 _ _ _ r R Q ?_ ?_ ?_
    · pointwise; exact row_congr x0 _ (by simp; omega)
    · pointwise
    · intro c
      beta_reduce
      rw [rows_idx 0 _ r c R (by omega)]
      canon_tiles z g using cover_upper _ (by sl_kernel_rfl) _ (by show R.val < 512; omega)
      all_goals
        obtain ⟨a, b, rfl⟩ : ∃ (a : Fin 512) (b : Fin 256), z = ix2 a b := ⟨z 0, z 1, eq_ix2 z⟩
        simp only [ix2_0, ix2_1] at g0 g1 z0_lt z1_lt
        refine act_tile x0 x1 x2 x4 _ _ _ _ _ a b R c (fun k => ?_) (fun k => ?_) (fun k => ?_) (fun k => ?_) (fun k => ?_)
        · pointwise; exact row_congr x0 _ (by simp; omega)
        · pointwise
        · pointwise
        · pointwise; exact col_congr x4 k _ _ (by omega)
        · pointwise; exact col_congr x4 k _ _ (by omega)

end Cert.Kernel2Ideal.Ffn

end
-- ==== Proof.Ffn.Layer.lean ====
/- One token of a macaron half step, from the arrays that the call is given. -/
module

public import proofs.«01_k».proof.Proof.Ffn.Row
public import Idealize.ShloMosaic.Lib.Pointwise

@[expose] public section

noncomputable section

namespace Cert.Ffn

open Idealize.ShloMosaic

/-- The half step of a token whose input row is `x` and whose modulation rows are `M b`: the pre-norm is modulated by
    the rows `s0` (shift) and `s1` (scale), the branch by the row `s2`, and the weights are those at `(1, l)`. -/
def layerRow (x : Fin 1024 → EReal) (b : Fin 4) (M : FVec Ideal ⟨3, ![4, 9, 1024]⟩ .f32) (g gp : FVec Ideal ⟨2, ![1, 1024]⟩ .f32)
    (W : FVec Ideal ⟨4, ![2, 2, 1024, 5632]⟩ .bf16) (W2 : FVec Ideal ⟨4, ![2, 2, 2816, 1024]⟩ .bf16) (l : Fin 2)
    (s0 s1 s2 : Fin 9) : Fin 1024 → EReal :=
  outRow x (fun k => g (ix2 0 k)) (fun k => gp (ix2 0 k)) (fun k => M (ix3 b s0 k)) (fun k => M (ix3 b s1 k))
    (fun k => M (ix3 b s2 k)) (fun k c => W (ix4 1 l k c)) (fun c k => W2 (ix4 1 l c k))

/-- `outRow` of equal rows and weights. -/
theorem outRow_congr {x x' g g' gp gp' m0 m0' m1 m1' m2 m2' : Fin 1024 → EReal} {W W' : Fin 1024 → Fin 5632 → EReal}
    {W2 W2' : Fin 2816 → Fin 1024 → EReal} {j j' : Fin 1024} (hx : ∀ k, x k = x' k) (hg : ∀ k, g k = g' k)
    (hgp : ∀ k, gp k = gp' k) (h0 : ∀ k, m0 k = m0' k) (h1 : ∀ k, m1 k = m1' k) (h2 : ∀ k, m2 k = m2' k)
    (hW : ∀ k c, W k c = W' k c) (hW2 : ∀ c k, W2 c k = W2' c k) (hj : j = j') :
    outRow x g gp m0 m1 m2 W W2 j = outRow x' g' gp' m0' m1' m2' W' W2' j' := by
  obtain rfl : x = x' := funext hx
  obtain rfl : g = g' := funext hg
  obtain rfl : gp = gp' := funext hgp
  obtain rfl : m0 = m0' := funext h0
  obtain rfl : m1 = m1' := funext h1
  obtain rfl : m2 = m2' := funext h2
  obtain rfl : W = W' := funext fun k => funext (hW k)
  obtain rfl : W2 = W2' := funext fun k => funext (hW2 k)
  rw [hj]

end Cert.Ffn

end
-- ==== Proof.Ffn.Final2.lean ====
/- The half step's result array after the kernel's run: every token's row is `layerRow` of its input row. -/
module

public import proofs.«01_k».proof.Proof.Ffn.Blk2
public import proofs.«01_k».proof.Proof.Ffn.Layer
public import proofs.«01_k».proof.Proof.Gen.Kernel2Ideal.Value

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem Idealize.ShloMosaic.Tactic

variable (m : (ℓ : Loc nD τ sig) → Buf (Elt Ideal) ℓ) (c : Dev nD)

/-- Which block each window holds at each grid point. -/
theorem idx : ∀ t : Fin cfg0.N, win0_0.index t = ![t.val, 0] ∧ win0_1.index t = ![t.val / 8, 0, 0] ∧ win0_2.index t = ![0, 0]
    ∧ win0_3.index t = ![0, 0] ∧ win0_4.index t = ![1, 0, 0, 0] ∧ win0_5.index t = ![1, 0, 0, 0] ∧ win0_6.index t = ![t.val, 0] :=
  (by decide +kernel : ∀ t : Fin grid0.N, _)

/-- The result: row `i 0` of it is the half step of row `i 0` of the input, modulated as its batch `i 0 / 8192` says. -/
def G (i : S32768x1024.Idx) : EReal :=
  layerRow (fun k => m ((c : Thread nD τ).loc main_arg0) (ix2 (i 0) k)) ⟨(i 0).val / 8192, by have : (i 0).val < 32768 := (i 0).isLt; omega⟩
    (m ((c : Thread nD τ).loc main_arg1)) (m ((c : Thread nD τ).loc main_arg2)) (m ((c : Thread nD τ).loc main_arg3))
    (m ((c : Thread nD τ).loc main_arg4)) (m ((c : Thread nD τ).loc main_arg5)) 0 0 1 2 (i 1)

/-- A block's output is the result at the block's rows. -/
theorem point (t : Fin cfg0.N) (y : S1024x1024.Idx) :
    Out (iblk m c 0 t) (iblk m c 1 t) (iblk m c 2 t) (iblk m c 3 t) (iblk m c 4 t) (iblk m c 5 t) y
      = G m c (((cfg0.win 6).blk t).view.emb y) := by
  obtain ⟨R, Q, rfl⟩ : ∃ (R Q : Fin 1024), y = ix2 R Q := ⟨y 0, y 1, eq_ix2 y⟩
  unfold Out G layerRow
  refine outRow_congr (fun k => ?_) (fun k => ?_) (fun k => ?_) (fun k => ?_) (fun k => ?_) (fun k => ?_) (fun k n => ?_)
    (fun n k => ?_) ?_
  case refine_9 => exact Fin.ext (by show Q.val = _; blk_simp [idx t]; try omega)
  all_goals blk_ext [iblk, V, idx t]

/-- The result array after the run. -/
theorem final : (dats m 0 c).arrAt 6 cfg0.N = G m c := by
  refine (dats m 0 c).arrAt_eq_of_covers 6 _ (by decide +kernel) fun t _ y => ?_
  blk_simp
  rw [after0_6]
  unfold Gen.outsAt0
  exact (block_at ..).trans (point m c t y)

end Cert.Kernel2Ideal.Ffn

end
-- ==== Proof.Ffn.Ref2.lean ====
/- The half step's reference, read at an index: row `r` of its result is `layerRow` of row `r` of its input. -/
module

public import proofs.«01_k».proof.Proof.Ffn.Layer
public import proofs.«01_k».proof.Proof.Gen.Reference2Ideal.Run

@[expose] public section

set_option maxRecDepth 16384

noncomputable section

namespace Cert.Reference2Ideal.Ffn

open Cert.Reference2Ideal Cert.Reference2Ideal.Gen Cert.Ffn
open Idealize.ShloMosaic Idealize.ShloMosaic.TcCoe Idealize.SL.Sem Idealize.ShloMosaic.Tactic

/-- The norm of every token's row, times `g`. -/
def rmsT (Y : FVec Ideal S4x8192x1024 .f32) (g : FVec Ideal S1x1024 .f32) : FVec Ideal S4x8192x1024 .f32 :=
  mulf (mulf Y (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf Y Y) (constant S_ .f32 0x00000000#32)
      reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

/-- The norm at an index. -/
theorem rmsT_at (Y : FVec Ideal S4x8192x1024 .f32) (g : FVec Ideal S1x1024 .f32) (b : Fin 4) (s : Fin 8192) (j : Fin 1024) :
    rmsT Y g (ix3 b s j) = rms (fun k => Y (ix3 b s k)) (fun k => g (ix2 0 k)) j := by
  pointwise [rmsT, rms]

/-- The modulation rows, the row number in front. -/
def modT (M : FVec Ideal S4x9x1024 .f32) : FVec Ideal S9x4x1x1024 .f32 :=
  broadcastInDim S9x4x1x1024 ![0, 1, 3] bcast_S9x4x1024_S9x4x1x1024_0_1_3
    (transpose S9x4x1024 [1, 0, 2] M transposes_S4x9x1024_S9x4x1024_1_0_2)

/-- A modulation row at an index. -/
theorem modT_at (M : FVec Ideal S4x9x1024 .f32) (q : Fin 9) (b : Fin 4) (j : Fin 1024) :
    modT M (ix4 q b 0 j) = M (ix3 b q j) := by
  pointwise [modT]

/-- The modulated pre-norm. -/
def hT (X : FVec Ideal S4x8192x1024 .f32) (M : FVec Ideal S4x9x1024 .f32) (g : FVec Ideal S1x1024 .f32) :
    FVec Ideal S4x8192x1024 .f32 :=
  addf (mulf (rmsT X g) (broadcastInDim S4x8192x1024 ![0, 1, 2] bcast_S4x1x1024_S4x8192x1024_0_1_2
      (addf (broadcastInDim S4x1x1024 ![] bcast_S_S4x1x1024 (constant S_ .f32 0x3F800000#32))
        (shapeCast _ (extractStridedSlice S1x4x1x1024 ![1, 0, 0, 0] (modT M) slices_S9x4x1x1024_S1x4x1x1024_1_0_0_0)
          shapeCasts_S1x4x1x1024_S4x1x1024))))
    (broadcastInDim S4x8192x1024 ![0, 1, 2] bcast_S4x1x1024_S4x8192x1024_0_1_2
      (shapeCast _ (extractStridedSlice S1x4x1x1024 ![0, 0, 0, 0] (modT M) slices_S9x4x1x1024_S1x4x1x1024_0_0_0_0)
        shapeCasts_S1x4x1x1024_S4x1x1024))

/-- The modulated pre-norm at an index. -/
theorem hT_at (X : FVec Ideal S4x8192x1024 .f32) (M : FVec Ideal S4x9x1024 .f32) (g : FVec Ideal S1x1024 .f32)
    (b : Fin 4) (s : Fin 8192) (j : Fin 1024) :
    hT X M g (ix3 b s j) = hRow (fun k => X (ix3 b s k)) (fun k => g (ix2 0 k)) (fun k => M (ix3 b 0 k))
      (fun k => M (ix3 b 1 k)) j := by
  pointwise [hT, hRow, rmsT_at, modT]

/-- Gate and up projections, side by side. -/
def guT (H : FVec Ideal S4x8192x1024 .f32) (W : FVec Ideal S2x2x1024x5632 .bf16) : FVec Ideal S4x8192x5632 .f32 :=
  Host.dotGeneral dot_S4x8192x1024_S1024x5632_S4x8192x5632_2_0_01_1_n_n none H
    (extf .f32 (shapeCast _ (extractStridedSlice S1x1x1024x5632 ![1, 0, 0, 0] W
      slices_S2x2x1024x5632_S1x1x1024x5632_1_0_0_0) shapeCasts_S1x1x1024x5632_S1024x5632) bitsLt_bf16_f32)

/-- The two projections at an index. -/
theorem guT_at (H : FVec Ideal S4x8192x1024 .f32) (W : FVec Ideal S2x2x1024x5632 .bf16) (b : Fin 4) (s : Fin 8192)
    (n : Fin 5632) : guT H W (ix3 b s n) = ∑ k : Fin 1024, H (ix3 b s k) * W (ix4 1 0 k n) := by
  pointwise [guT]

/-- The gated hidden layer. -/
def actT (U : FVec Ideal S4x8192x5632 .f32) : FVec Ideal S4x8192x2816 .f32 :=
  mulf (mulf (extractStridedSlice S4x8192x2816 ![0, 0, 0] U slices_S4x8192x5632_S4x8192x2816_0_0_0)
      (Host.divf (broadcastInDim S4x8192x2816 ![] bcast_S_S4x8192x2816 (constant S_ .f32 0x3F800000#32))
        (addf (broadcastInDim S4x8192x2816 ![] bcast_S_S4x8192x2816 (constant S_ .f32 0x3F800000#32))
          (Host.exp (Host.negf (extractStridedSlice S4x8192x2816 ![0, 0, 0] U slices_S4x8192x5632_S4x8192x2816_0_0_0))))))
    (extractStridedSlice S4x8192x2816 ![0, 0, 2816] U slices_S4x8192x5632_S4x8192x2816_0_0_2816)

/-- The gated hidden layer at an index. -/
theorem actT_at (U : FVec Ideal S4x8192x5632 .f32) (b : Fin 4) (s : Fin 8192) (n : Fin 2816) :
    actT U (ix3 b s n) = silu (U (ix3 b s ⟨n.val, by omega⟩)) * U (ix3 b s ⟨2816 + n.val, by omega⟩) := by
  pointwise [actT, silu]

/-- The output projection. -/
def yT (A : FVec Ideal S4x8192x2816 .f32) (W2 : FVec Ideal S2x2x2816x1024 .bf16) : FVec Ideal S4x8192x1024 .f32 :=
  Host.dotGeneral dot_S4x8192x2816_S2816x1024_S4x8192x1024_2_0_01_1_n_n none A
    (extf .f32 (shapeCast _ (extractStridedSlice S1x1x2816x1024 ![1, 0, 0, 0] W2
      slices_S2x2x2816x1024_S1x1x2816x1024_1_0_0_0) shapeCasts_S1x1x2816x1024_S2816x1024) bitsLt_bf16_f32)

/-- The output projection at an index. -/
theorem yT_at (A : FVec Ideal S4x8192x2816 .f32) (W2 : FVec Ideal S2x2x2816x1024 .bf16) (b : Fin 4) (s : Fin 8192)
    (j : Fin 1024) : yT A W2 (ix3 b s j) = ∑ n : Fin 2816, A (ix3 b s n) * W2 (ix4 1 0 n j) := by
  pointwise [yT]

/-- The gated residual. -/
def outT (X Y : FVec Ideal S4x8192x1024 .f32) (M : FVec Ideal S4x9x1024 .f32) (gp : FVec Ideal S1x1024 .f32) :
    FVec Ideal S4x8192x1024 .f32 :=
  addf X (mulf (broadcastInDim S4x8192x1024 ![0, 1, 2] bcast_S4x1x1024_S4x8192x1024_0_1_2
      (mulf (broadcastInDim S4x1x1024 ![] bcast_S_S4x1x1024 (constant S_ .f32 0x3F000000#32))
        (shapeCast _ (extractStridedSlice S1x4x1x1024 ![2, 0, 0, 0] (modT M) slices_S9x4x1x1024_S1x4x1x1024_2_0_0_0)
          shapeCasts_S1x4x1x1024_S4x1x1024)))
    (rmsT Y gp))

/-- The gated residual at an index. -/
theorem outT_at (X Y : FVec Ideal S4x8192x1024 .f32) (M : FVec Ideal S4x9x1024 .f32) (gp : FVec Ideal S1x1024 .f32)
    (b : Fin 4) (s : Fin 8192) (j : Fin 1024) :
    outT X Y M gp (ix3 b s j) = X (ix3 b s j) + Ideal.ofBits .f32 0x3F000000#32 * M (ix3 b 2 j)
      * rms (fun k => Y (ix3 b s k)) (fun k => gp (ix2 0 k)) j := by
  pointwise [outT, rmsT_at, modT]

/-- The whole half step at an index. -/
theorem layer_at (X : FVec Ideal S4x8192x1024 .f32) (M : FVec Ideal S4x9x1024 .f32) (g gp : FVec Ideal S1x1024 .f32)
    (W : FVec Ideal S2x2x1024x5632 .bf16) (W2 : FVec Ideal S2x2x2816x1024 .bf16) (b : Fin 4) (s : Fin 8192) (j : Fin 1024) :
    outT X (yT (actT (guT (hT X M g) W)) W2) M gp (ix3 b s j)
      = layerRow (fun k => X (ix3 b s k)) b M g gp W W2 0 0 1 2 j := by
  rw [outT_at]
  simp only [yT_at, actT_at, guT_at, hT_at]
  rfl

variable (m : (ℓ : Loc nD τ sig) → Buf (Elt Ideal) ℓ) (c : Dev nD)

/-- The rows of the input, batch by batch. -/
def xT (X : FVec Ideal S32768x1024 .f32) : FVec Ideal S4x8192x1024 .f32 := shapeCast _ X shapeCasts_S32768x1024_S4x8192x1024

/-- Row `r` of the input is token `r % 8192` of batch `r / 8192`. -/
theorem xT_at (X : FVec Ideal S32768x1024 .f32) (r : Fin 32768) (j : Fin 1024) :
    xT X (ix3 (⟨r.val / 8192, by omega⟩ : Fin 4) (⟨r.val % 8192, by omega⟩ : Fin 8192) j) = X (ix2 r j) := by
  pointwise [xT]

/-- The rows of all batches, one after the other. -/
theorem flat_at (Y : FVec Ideal S4x8192x1024 .f32) (r : Fin 32768) (j : Fin 1024) :
    (shapeCast S32768x1024 Y shapeCasts_S4x8192x1024_S32768x1024 : FVec Ideal S32768x1024 .f32) (ix2 r j)
      = Y (ix3 (⟨r.val / 8192, by omega⟩ : Fin 4) (⟨r.val % 8192, by omega⟩ : Fin 8192) j) := by
  pointwise

/-- The reference's result is the half step of its input, by tokens. -/
theorem res_eq : Value.res_main_v60 m c = shapeCast S32768x1024 (outT (xT (m ((c.tc : Thread nD τ).loc main_arg0)))
      (yT (actT (guT (hT (xT (m ((c.tc : Thread nD τ).loc main_arg0))) (m ((c.tc : Thread nD τ).loc main_arg1))
        (m ((c.tc : Thread nD τ).loc main_arg2))) (m ((c.tc : Thread nD τ).loc main_arg4)))) (m ((c.tc : Thread nD τ).loc main_arg5)))
      (m ((c.tc : Thread nD τ).loc main_arg1)) (m ((c.tc : Thread nD τ).loc main_arg3))) shapeCasts_S4x8192x1024_S32768x1024 := by
  unfold Value.res_main_v60 outT yT actT guT hT rmsT modT xT
  rfl

/-- Row `r` of the reference's result. -/
theorem res_at (r : Fin 32768) (j : Fin 1024) : Value.res_main_v60 m c (ix2 r j)
      = layerRow (fun k => m ((c.tc : Thread nD τ).loc main_arg0) (ix2 r k)) ⟨r.val / 8192, by omega⟩
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) 0 0 1 2 j := by
  rw [res_eq, flat_at, layer_at]
  simp only [xT_at]

end Cert.Reference2Ideal.Ffn

end
-- ==== Proof.Ffn.Claim2.lean ====
/- The half step: kernel and reference compute the same array. -/
module

public import proofs.«01_k».proof.Defs
public import proofs.«01_k».proof.Proof.Ffn.Final2
public import proofs.«01_k».proof.Proof.Ffn.Ref2
public import Idealize.ShloMosaic.Lib.Claim

@[expose] public section

set_option maxRecDepth 16384

noncomputable section

namespace Cert.Proof.Ffn

open Idealize.ShloMosaic Idealize.ShloMosaic.TcCoe Idealize.SL.Sem Idealize.ShloMosaic.Tactic

/-- Over the extended reals the half step's kernel and its reference leave the same result. -/
theorem algebraic2 : Cert.algebraic_Kernel2Ideal_Reference2Ideal := by
  pair_intro
  · run_from Cert.Kernel2Ideal.Gen.run_main m g
  · run_from Cert.Reference2Ideal.Value.run m' g'
    refine Eq.trans ?_ (Cert.Kernel2Ideal.Ffn.final m c).symm
    obtain ⟨h0, h1, h2, h3, h4, h5⟩ := hagree c
    funext i
    obtain ⟨r, j, rfl⟩ : ∃ (r : Fin 32768) (j : Fin 1024), i = ix2 r j := ⟨i 0, i 1, eq_ix2 i⟩
    rw [Cert.Reference2Ideal.Ffn.res_at, h0, h1, h2, h3, h4, h5]
    rfl

end Cert.Proof.Ffn

end
-- ==== Proof.Ffn.Mix.lean ====
/- One token of the output projection of the token mixing, with its gated residual. -/
module

public import proofs.«01_k».proof.Proof.Ffn.Layer

@[expose] public section

noncomputable section

namespace Cert.Ffn

open Idealize.ShloMosaic

/-- The residual row `x` plus the gate `m5` times the normed product of the two mixed halves `a`, `b` with `w`. -/
def mixRow (a b : Fin 512 → EReal) (w : Fin 1024 → Fin 1024 → EReal) (g x m5 : Fin 1024 → EReal) (j : Fin 1024) : EReal :=
  x j + m5 j * rms (fun k => (∑ c : Fin 512, a c * w ⟨c.val, by omega⟩ k) + ∑ c : Fin 512, b c * w ⟨512 + c.val, by omega⟩ k) g j

/-- `mixRow` of equal rows and weights. -/
theorem mixRow_congr {a a' b b' : Fin 512 → EReal} {w w' : Fin 1024 → Fin 1024 → EReal} {g g' x x' m5 m5' : Fin 1024 → EReal}
    {j : Fin 1024} (ha : ∀ k, a k = a' k) (hb : ∀ k, b k = b' k) (hw : ∀ k c, w k c = w' k c) (hg : ∀ k, g k = g' k)
    (hx : ∀ k, x k = x' k) (hm : ∀ k, m5 k = m5' k) : mixRow a b w g x m5 j = mixRow a' b' w' g' x' m5' j := by
  obtain rfl : a = a' := funext ha
  obtain rfl : b = b' := funext hb
  obtain rfl : w = w' := funext fun k => funext (hw k)
  obtain rfl : g = g' := funext hg
  obtain rfl : x = x' := funext hx
  obtain rfl : m5 = m5' := funext hm
  rfl

end Cert.Ffn

end
-- ==== Proof.Ffn.Point3.lean ====
/- What the payloads of the joined call (output projection, then the second half step) hold at an index. -/
module

public import proofs.«01_k».proof.Proof.Gen.Kernel3Ideal.Value
public import proofs.«01_k».proof.Proof.Ffn.Mix
public import Idealize.ShloMosaic.Lib.Pipeline.ValueKit
public import Idealize.ShloMosaic.Lib.Pipeline.ReadBack

@[expose] public section

set_option maxRecDepth 16384

noncomputable section

namespace Cert.Kernel3Ideal.Ffn

open Cert.Kernel3Ideal Cert.Kernel3Ideal.Gen Cert.Ffn
open Idealize.ShloMosaic Idealize.ShloMosaic.TcCoe Idealize.SL.Sem Idealize.ShloMosaic.Tactic

/-- The row after the output projection, from the two halves of the weight. -/
theorem x_at (v0 v3 : Vec Ideal S512x512 .bf16) (v1 v4 : Vec Ideal S512x1024 .bf16) (v7 : Vec Ideal S512x1024 .f32)
    (v8 : Vec Ideal S1x1x1024 .f32) (v10 : Vec Ideal S1x1024 .f32) (r : Fin 512) (j : Fin 1024) :
    k0_pay1 v0 v1 v3 v4 v7 v8 v10 (ix2 r j) = v7 (ix2 r j) + v8 (ix3 0 0 j) * rms (fun k =>
      (∑ c : Fin 512, v0 (ix2 r c) * v1 (ix2 c k)) + ∑ c : Fin 512, v3 (ix2 r c) * v4 (ix2 c k)) (fun k => v10 (ix2 0 k)) j := by
  pointwise [k0_pay1, rms]

/-- The pre-norm's payload at an index is `hRow` of the row it reads. -/
theorem h_at (v0 v3 : Vec Ideal S512x512 .bf16) (v1 v4 : Vec Ideal S512x1024 .bf16) (v7 : Vec Ideal S512x1024 .f32)
    (v8 : Vec Ideal S1x1x1024 .f32) (v10 v26 : Vec Ideal S1x1024 .f32) (v39 v45 : Vec Ideal S1x1x1024 .f32)
    (r : Fin 512) (k : Fin 1024) :
    k0_pay3 (k0_pay1 v0 v1 v3 v4 v7 v8 v10) v26 (k0_pay2 v0 v1 v3 v4 v7 v8 v10) v39 v45 (ix2 r k)
      = hRow (fun k => k0_pay1 v0 v1 v3 v4 v7 v8 v10 (ix2 r k)) (fun k => v26 (ix2 0 k)) (fun k => v45 (ix3 0 0 k))
        (fun k => v39 (ix3 0 0 k)) k := by
  generalize hX : k0_pay1 v0 v1 v3 v4 v7 v8 v10 = X
  unfold k0_pay2
  rw [hX]
  pointwise [k0_pay3, hRow, rms]

/-- One tile of the hidden layer at an index. -/
theorem act_at (h : FVec Ideal S512x1024 .bf16) (wg wu : Vec Ideal S1x1x1024x256 .bf16) (r : Fin 512) (c : Fin 256) :
    k0_pay9 h wg wu (ix2 r c) = silu (∑ k : Fin 1024, h (ix2 r k) * wg (ix4 0 0 k c))
      * ∑ k : Fin 1024, h (ix2 r k) * wu (ix4 0 0 k c) := by
  rw [← silu_zero_sub]
  pointwise [k0_pay9]

/-- The residual's payload at an index, for any hidden rows `v493`. -/
theorem out_at (v25 : FVec Ideal S512x1024 .f32) (v493 : Vec Ideal S512x2816 .bf16) (v494 : Vec Ideal S1x1x2816x1024 .bf16)
    (v497 : Vec Ideal S1x1x1024 .f32) (v501 : Vec Ideal S1x1024 .f32) (r : Fin 512) (j : Fin 1024) :
    k0_pay53 v25 v493 v494 v497 v501 (ix2 r j) = v25 (ix2 r j) + Ideal.ofBits .f32 0x3F000000#32 * v497 (ix3 0 0 j)
      * rms (yRow (fun c => v493 (ix2 r c)) fun c k => v494 (ix4 0 0 c k)) (fun k => v501 (ix2 0 k)) j := by
  pointwise [k0_pay53, rms, yRow]

end Cert.Kernel3Ideal.Ffn

end
-- ==== Proof.Ffn.Blk3.lean ====
/- What one grid point of the joined call leaves in its output block, as a function of its input blocks. -/
module

public import proofs.«01_k».proof.Proof.Ffn.Point3

@[expose] public section

set_option maxRecDepth 16384

noncomputable section

namespace Cert.Kernel3Ideal.Ffn

open Cert.Kernel3Ideal Cert.Kernel3Ideal.Gen Cert.Ffn
open Idealize.ShloMosaic Idealize.ShloMosaic.TcCoe Idealize.SL.Sem Idealize.ShloMosaic.Tactic

/-- The rows of a block after the output projection. -/
def Mix (x0 x1 : Vec Ideal S1024x512 .bf16) (x2 : Vec Ideal S1024x1024 .bf16) (x3 : Vec Ideal S1x1024 .f32)
    (x4 : Vec Ideal S1024x1024 .f32) (x5 : Vec Ideal S1x9x1024 .f32) (R k : Fin 1024) : EReal :=
  mixRow (fun c => x0 (ix2 R c)) (fun c => x1 (ix2 R c)) (fun c k => x2 (ix2 c k)) (fun k => x3 (ix2 0 k))
    (fun k => x4 (ix2 R k)) (fun k => x5 (ix3 0 5 k)) k

/-- The hidden layer of a block's 1024 rows `X`. -/
def Act (X : Fin 1024 → Fin 1024 → EReal) (x5 : Vec Ideal S1x9x1024 .f32) (x6 : Vec Ideal S1x1024 .f32)
    (x8 : Vec Ideal S1x1x1024x5632 .bf16) (i : S1024x2816.Idx) : EReal :=
  actRow (hRow (X (i 0)) (fun k => x6 (ix2 0 k)) (fun k => x5 (ix3 0 6 k)) (fun k => x5 (ix3 0 7 k)))
    (fun k c => x8 (ix4 0 0 k c)) (i 1)

/-- A block's output, as one function of its rows `X` and the block's other inputs. -/
def Out (X : Fin 1024 → Fin 1024 → EReal) (x5 : Vec Ideal S1x9x1024 .f32) (x6 x7 : Vec Ideal S1x1024 .f32)
    (x8 : Vec Ideal S1x1x1024x5632 .bf16) (x9 : Vec Ideal S1x1x2816x1024 .bf16) (j : S1024x1024.Idx) : EReal :=
  outRow (X (j 0)) (fun k => x6 (ix2 0 k)) (fun k => x7 (ix2 0 k)) (fun k => x5 (ix3 0 6 k))
    (fun k => x5 (ix3 0 7 k)) (fun k => x5 (ix3 0 8 k)) (fun k c => x8 (ix4 0 0 k c)) (fun c k => x9 (ix4 0 0 c k)) (j 1)

/-- The residual of one row: when its hidden row is that of `Act`, the payload is `Out`. -/
theorem out_of_act (X : Fin 1024 → Fin 1024 → EReal) (x5 : Vec Ideal S1x9x1024 .f32) (x6 x7 : Vec Ideal S1x1024 .f32)
    (x8 : Vec Ideal S1x1x1024x5632 .bf16) (x9 : Vec Ideal S1x1x2816x1024 .bf16) (v25 : FVec Ideal S512x1024 .f32)
    (v493 : Vec Ideal S512x2816 .bf16) (v497 : Vec Ideal S1x1x1024 .f32) (r : Fin 512) (R j : Fin 1024)
    (hv : v25 (ix2 r j) = X R j) (hm : v497 (ix3 0 0 j) = x5 (ix3 0 8 j))
    (hA : ∀ c : Fin 2816, v493 (ix2 r c) = Act X x5 x6 x8 (ix2 R c)) :
    k0_pay53 v25 v493 x9 v497 x7 (ix2 r j) = Out X x5 x6 x7 x8 x9 (ix2 R j) := by
  rw [out_at, hv, hm]
  simp only [hA]
  rfl

/-- The output projection of 512 rows: row `r` of them is row `R` of the block. -/
theorem mix_tile (x0 x1 : Vec Ideal S1024x512 .bf16) (x2 : Vec Ideal S1024x1024 .bf16) (x3 : Vec Ideal S1x1024 .f32)
    (x4 : Vec Ideal S1024x1024 .f32) (x5 : Vec Ideal S1x9x1024 .f32) (v0 v3 : Vec Ideal S512x512 .bf16)
    (v1 v4 : Vec Ideal S512x1024 .bf16) (v7 : Vec Ideal S512x1024 .f32) (v8 : Vec Ideal S1x1x1024 .f32) (r : Fin 512) (R : Fin 1024)
    (h0 : ∀ c : Fin 512, v0 (ix2 r c) = x0 (ix2 R c)) (h3 : ∀ c : Fin 512, v3 (ix2 r c) = x1 (ix2 R c))
    (h1 : ∀ (c : Fin 512) (k : Fin 1024), v1 (ix2 c k) = x2 (ix2 ⟨c.val, by omega⟩ k))
    (h4 : ∀ (c : Fin 512) (k : Fin 1024), v4 (ix2 c k) = x2 (ix2 ⟨512 + c.val, by omega⟩ k))
    (h7 : ∀ k : Fin 1024, v7 (ix2 r k) = x4 (ix2 R k)) (h8 : ∀ k : Fin 1024, v8 (ix3 0 0 k) = x5 (ix3 0 5 k)) (k : Fin 1024) :
    k0_pay1 v0 v1 v3 v4 v7 v8 x3 (ix2 r k) = Mix x0 x1 x2 x3 x4 x5 R k := by
  rw [x_at]
  simp only [h0, h3, h1, h4, h7, h8]
  rfl

/-- A tile of the hidden layer, at the place where it is stored: `Act` there. -/
theorem act_tile (X : Fin 1024 → Fin 1024 → EReal) (x3 : Vec Ideal S1x1024 .f32) (x5 : Vec Ideal S1x9x1024 .f32)
    (x6 : Vec Ideal S1x1024 .f32) (x8 : Vec Ideal S1x1x1024x5632 .bf16) (v0 v3 : Vec Ideal S512x512 .bf16)
    (v1 v4 : Vec Ideal S512x1024 .bf16) (v7 : Vec Ideal S512x1024 .f32) (v8 v14 v20 : Vec Ideal S1x1x1024 .f32)
    (wg wu : Vec Ideal S1x1x1024x256 .bf16) (r : Fin 512) (c : Fin 256) (R : Fin 1024) (C : Fin 2816)
    (hX : ∀ k : Fin 1024, k0_pay1 v0 v1 v3 v4 v7 v8 x3 (ix2 r k) = X R k)
    (h14 : ∀ k : Fin 1024, v14 (ix3 0 0 k) = x5 (ix3 0 7 k)) (h20 : ∀ k : Fin 1024, v20 (ix3 0 0 k) = x5 (ix3 0 6 k))
    (hg : ∀ k : Fin 1024, wg (ix4 0 0 k c) = x8 (ix4 0 0 k ⟨C.val, by omega⟩))
    (hu : ∀ k : Fin 1024, wu (ix4 0 0 k c) = x8 (ix4 0 0 k ⟨2816 + C.val, by omega⟩)) :
    k0_pay9 (k0_pay3 (k0_pay1 v0 v1 v3 v4 v7 v8 x3) x6 (k0_pay2 v0 v1 v3 v4 v7 v8 x3) v14 v20) wg wu (ix2 r c)
      = Act X x5 x6 x8 (ix2 R C) := by
  rw [act_at]
  simp only [h_at, hg, hu, hX, h14, h20]
  rfl

/-- Rows of a block at equal row numbers. -/
theorem row_congr {n : ℕ} {e : EltTy} (x : Vec Ideal ⟨2, ![1024, n]⟩ e) (k : Fin n) {a b : Fin 1024} (h : a.val = b.val) :
    x (ix2 a k) = x (ix2 b k) := by
  rw [Fin.ext h]

/-- The first weight at equal columns. -/
theorem col_congr (x8 : Vec Ideal S1x1x1024x5632 .bf16) (k : Fin 1024) {a b : ℕ} (ha : a < 5632) (hb : b < 5632) (h : a = b) :
    x8 (ix4 0 0 k (⟨a, ha⟩ : Fin 5632)) = x8 (ix4 0 0 k (⟨b, hb⟩ : Fin 5632)) := by
  subst h; rfl

/-- Where a load of 512 whole rows at row `o` reads. -/
theorem rows_idx (o : ℕ) (inb : ∀ a, (![o, 0] : Fin 2 → ℕ) a + (![512, 2816] : Fin 2 → ℕ) a ≤ S1024x2816.size a) (r : Fin 512)
    (c : Fin 2816) (R : Fin 1024) (h : R.val = o + r.val) :
    (Rect.unit (s := S1024x2816) ![o, 0] ![512, 2816] inb).toLoadRect.idx (ix2 r c) = ix2 R c := by
  funext a
  apply Fin.ext
  match a with
  | ⟨0, _⟩ => show o + 1 * r.val = R.val; omega
  | ⟨1, _⟩ => show 0 + 1 * c.val = c.val; omega

/-- Tiles of the upper 512 rows, which with the lower half's rectangle tile the whole buffer, cover every upper index. -/
theorem cover_upper (L : List (View.Piece (Elt Ideal) S1024x2816 .bf16))
    (h : View.Piece.tiledBy (L ++ [⟨Rect.unit ![512, 0] ![512, 2816] inb_S1024x2816_S512x2816_512_0, fun _ => (0 : EReal)⟩]) ![512, 256] = true)
    (y : S1024x2816.Idx) (hy : (y 0).val < 512) : ∃ p ∈ L, y ∈ p.1.set := by
  obtain ⟨p, hp, hm⟩ := View.cover_of_tiledBy _ _ h y
  rcases List.mem_append.mp hp with hp | hp
  · exact ⟨p, hp, hm⟩
  · rw [List.mem_singleton] at hp
    subst hp
    rw [Rect.mem_set_unit] at hm
    have := (hm 0).1
    exact absurd this (by show ¬ (512 ≤ (y 0).val); omega)

set_option maxHeartbeats 4000000 in
/-- What the body leaves in its output block is `Out` of its rows after the output projection. -/
theorem block_at (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x9x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024x5632 .bf16) (harg9 : arg9.IsWhole) (arg10 : Memref sig .tc .vmem S1x1x2816x1024 .bf16) (harg10 : arg10.IsWhole) (arg11 : Memref sig .tc .vmem S1024x1024 .f32) (harg11 : arg11.IsWhole) (arg12 : Memref sig .tc .vmem S1024x2816 .bf16) (harg12 : arg12.IsWhole)
    (x0 x1 : Vec Ideal S1024x512 .bf16) (x2 : Vec Ideal S1024x1024 .bf16) (x3 : Vec Ideal S1x1024 .f32)
    (x4 : Vec Ideal S1024x1024 .f32) (x5 : Vec Ideal S1x9x1024 .f32) (x6 x7 : Vec Ideal S1x1024 .f32)
    (x8 : Vec Ideal S1x1x1024x5632 .bf16) (x9 : Vec Ideal S1x1x2816x1024 .bf16) (y : S1024x1024.Idx) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y
      = Out (Mix x0 x1 x2 x3 x4 x5) x5 x6 x7 x8 x9 y := by
  frame_out [View.readCov_eq_canon']
  canon_tiles x h
  case piece0 =>
    obtain ⟨r, q, rfl⟩ : ∃ (r : Fin 512) (q : Fin 1024), x = ix2 r q := ⟨x 0, x 1, eq_ix2 x⟩
    obtain ⟨R, Q, rfl⟩ : ∃ (R Q : Fin 1024), y = ix2 R Q := ⟨y 0, y 1, eq_ix2 y⟩
    simp only [ix2_0, ix2_1] at h0 h1 x0_lt x1_lt
    obtain rfl : Q = q := Fin.ext h1
    refine out_of_act (Mix x0 x1 x2 x3 x4 x5) x5 x6 x7 x8 x9 _ _ _ r R Q ?_ ?_ ?_
    · refine mix_tile x0 x1 x2 x3 x4 x5 _ _ _ _ _ _ r R (fun n => ?_) (fun n => ?_) (fun n k => ?_) (fun n k => ?_)
        (fun k => ?_) (fun k => ?_) Q
      · pointwise; exact row_congr x0 _ (by simp; omega)
      · pointwise; exact row_congr x1 _ (by simp; omega)
      · pointwise
      · pointwise
      · pointwise; exact row_congr x4 _ (by simp; omega)
      · pointwise
    · pointwise
    · intro c
      beta_reduce
      rw [rows_idx 512 _ r c R (by omega)]
      canon_tiles z g
      all_goals
        obtain ⟨a, b, rfl⟩ : ∃ (a : Fin 512) (b : Fin 256), z = ix2 a b := ⟨z 0, z 1, eq_ix2 z⟩
        simp only [ix2_0, ix2_1] at g0 g1 z0_lt z1_lt
        first
        | (exfalso; omega)
        | (refine act_tile (Mix x0 x1 x2 x3 x4 x5) x3 x5 x6 x8 _ _ _ _ _ _ _ _ _ _ a b R c
             (mix_tile x0 x1 x2 x3 x4 x5 _ _ _ _ _ _ a R (fun n => ?_) (fun n => ?_) (fun n k => ?_) (fun n k => ?_)
               (fun k => ?_) (fun k => ?_))
             (fun k => ?_) (fun k => ?_) (fun k => ?_) (fun k => ?_)
           · pointwise; exact row_congr x0 _ (by simp; omega)
           · pointwise; exact row_congr x1 _ (by simp; omega)
           · pointwise
           · pointwise
           · pointwise; exact row_congr x4 _ (by simp; omega)
           · pointwise
           · pointwise
           · pointwise
           · pointwise; exact col_congr x8 k _ _ (by omega)
           · pointwise; exact col_congr x8 k _ _ (by omega))
  case piece1 =>
    obtain ⟨r, q, rfl⟩ : ∃ (r : Fin 512) (q : Fin 1024), x = ix2 r q := ⟨x 0, x 1, eq_ix2 x⟩
    obtain ⟨R, Q, rfl⟩ : ∃ (R Q : Fin 1024), y = ix2 R Q := ⟨y 0, y 1, eq_ix2 y⟩
    simp only [ix2_0, ix2_1] at h0 h1 x0_lt x1_lt
    obtain rfl : Q = q := Fin.ext h1
    refine out_of_act (Mix x0 x1 x2 x3 x4 x5) x5 x6 x7 x8 x9 _ _ _ r R Q ?_ ?_ ?_
    · refine mix_tile x0 x1 x2 x3 x4 x5 _ _ _ _ _ _ r R (fun n => ?_) (fun n => ?_) (fun n k => ?_) (fun n k => ?_)
        (fun k => ?_) (fun k => ?_) Q
      · pointwise; exact row_congr x0 _ (by simp; omega)
      · pointwise; exact row_congr x1 _ (by simp; omega)
      · pointwise
      · pointwise
      · pointwise; exact row_congr x4 _ (by simp; omega)
      · pointwise
    · pointwise
    · intro c
      beta_reduce
      rw [rows_idx 0 _ r c R (by omega)]
      canon_tiles z g using cover_upper _ (by sl_kernel_rfl) _ (by show R.val < 512; omega)
      all_goals
        obtain ⟨a, b, rfl⟩ : ∃ (a : Fin 512) (b : Fin 256), z = ix2 a b := ⟨z 0, z 1, eq_ix2 z⟩
        simp only [ix2_0, ix2_1] at g0 g1 z0_lt z1_lt
        refine act_tile (Mix x0 x1 x2 x3 x4 x5) x3 x5 x6 x8 _ _ _ _ _ _ _ _ _ _ a b R c
          (mix_tile x0 x1 x2 x3 x4 x5 _ _ _ _ _ _ a R (fun n => ?_) (fun n => ?_) (fun n k => ?_) (fun n k => ?_)
               (fun k => ?_) (fun k => ?_))
          (fun k => ?_) (fun k => ?_) (fun k => ?_) (fun k => ?_)
        · pointwise; exact row_congr x0 _ (by simp; omega)
        · pointwise; exact row_congr x1 _ (by simp; omega)
        · pointwise
        · pointwise
        · pointwise; exact row_congr x4 _ (by simp; omega)
        · pointwise
        · pointwise
        · pointwise
        · pointwise; exact col_congr x8 k _ _ (by omega)
        · pointwise; exact col_congr x8 k _ _ (by omega)

end Cert.Kernel3Ideal.Ffn

end
-- ==== Proof.Ffn.Final3.lean ====
/- The joined call's result array after the kernel's run: every token's row is `layerRow` of `mixRow` of its input rows. -/
module

public import proofs.«01_k».proof.Proof.Ffn.Blk3
public import proofs.«01_k».proof.Proof.Ffn.Mix
public import proofs.«01_k».proof.Proof.Gen.Kernel3Ideal.Value

@[expose] public section

set_option maxRecDepth 16384

noncomputable section

namespace Cert.Kernel3Ideal.Ffn

open Cert.Kernel3Ideal Cert.Kernel3Ideal.Gen Cert.Ffn
open Idealize.ShloMosaic Idealize.ShloMosaic.TcCoe Idealize.SL.Sem Idealize.ShloMosaic.Tactic

variable (m : (ℓ : Loc nD τ sig) → Buf (Elt Ideal) ℓ) (c : Dev nD)

/-- Which block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val / 8, 0, 0] ∧ win0_6.index t = ![0, 0]
    ∧ win0_7.index t = ![0, 0] ∧ win0_8.index t = ![1, 1, 0, 0] ∧ win0_9.index t = ![1, 1, 0, 0] ∧ win0_10.index t = ![t.val, 0] :=
  (by decide +kernel : ∀ t : Fin grid0.N, _)

/-- Row `r` after the output projection, in the modulation of batch `b`. -/
def X (r : Fin 32768) (b : Fin 4) (k : Fin 1024) : EReal :=
  mixRow (fun n => m ((c : Thread nD τ).loc main_arg0) (ix2 r n)) (fun n => m ((c : Thread nD τ).loc main_arg1) (ix2 r n))
    (fun n k => m ((c : Thread nD τ).loc main_arg2) (ix2 n k)) (fun k => m ((c : Thread nD τ).loc main_arg3) (ix2 0 k))
    (fun k => m ((c : Thread nD τ).loc main_arg4) (ix2 r k)) (fun k => m ((c : Thread nD τ).loc main_arg5) (ix3 b 5 k)) k

/-- The result: the output projection's residual and then the second half step, row by row; row `i 0` is modulated as its
    batch `i 0 / 8192` says. -/
def G (i : S32768x1024.Idx) : EReal :=
  layerRow (X m c (i 0) ⟨(i 0).val / 8192, by have : (i 0).val < 32768 := (i 0).isLt; omega⟩)
    ⟨(i 0).val / 8192, by have : (i 0).val < 32768 := (i 0).isLt; omega⟩
    (m ((c : Thread nD τ).loc main_arg5)) (m ((c : Thread nD τ).loc main_arg6)) (m ((c : Thread nD τ).loc main_arg7))
    (m ((c : Thread nD τ).loc main_arg8)) (m ((c : Thread nD τ).loc main_arg9)) 1 6 7 8 (i 1)

/-- A block's output is the result at the block's rows. -/
theorem point (t : Fin cfg0.N) (y : S1024x1024.Idx) :
    Out (Mix (iblk m c 0 t) (iblk m c 1 t) (iblk m c 2 t) (iblk m c 3 t) (iblk m c 4 t) (iblk m c 5 t)) (iblk m c 5 t)
        (iblk m c 6 t) (iblk m c 7 t) (iblk m c 8 t) (iblk m c 9 t) y
      = G m c (((cfg0.win 10).blk t).view.emb y) := by
  obtain ⟨R, Q, rfl⟩ : ∃ (R Q : Fin 1024), y = ix2 R Q := ⟨y 0, y 1, eq_ix2 y⟩
  unfold Out G layerRow
  refine outRow_congr (fun k => ?_) (fun k => ?_) (fun k => ?_) (fun k => ?_) (fun k => ?_) (fun k => ?_) (fun k n => ?_)
    (fun n k => ?_) ?_
  case refine_1 =>
    unfold Mix X
    refine mixRow_congr (fun k => ?_) (fun k => ?_) (fun n k => ?_) (fun k => ?_) (fun k => ?_) (fun k => ?_)
    all_goals blk_ext [iblk, V, idx t]
  case refine_9 => exact Fin.ext (by show Q.val = _; blk_simp [idx t]; try omega)
  all_goals blk_ext [iblk, V, idx t]

/-- The result array after the run. -/
theorem final : (dats m 0 c).arrAt 10 cfg0.N = G m c := by
  refine (dats m 0 c).arrAt_eq_of_covers 10 _ (by decide +kernel) fun t _ y => ?_
  blk_simp
  rw [after0_10]
  unfold Gen.outsAt0
  exact (block_at ..).trans (point m c t y)

end Cert.Kernel3Ideal.Ffn

end
-- ==== Proof.Ffn.Ref3.lean ====
/- The joined call's reference, read at an index: row `r` of its result is `layerRow` of `mixRow` of row `r` of its inputs. -/
module

public import proofs.«01_k».proof.Proof.Ffn.Mix
public import proofs.«01_k».proof.Proof.Ffn.Ref2
public import proofs.«01_k».proof.Proof.Gen.Reference3Ideal.Run

@[expose] public section

set_option maxRecDepth 16384

noncomputable section

namespace Cert.Reference3Ideal.Ffn

open Cert.Reference2Ideal.Ffn (rmsT rmsT_at modT modT_at actT actT_at xT xT_at flat_at)
open Cert.Reference3Ideal Cert.Reference3Ideal.Gen Cert.Ffn
open Idealize.ShloMosaic Idealize.ShloMosaic.TcCoe Idealize.SL.Sem Idealize.ShloMosaic.Tactic

/-- The product of the two mixed halves, side by side, with the projection's weight. -/
def dT (A B : FVec Ideal S32768x512 .bf16) (w : FVec Ideal S1024x1024 .bf16) : FVec Ideal S4x8192x1024 .f32 :=
  Host.dotGeneral dot_S4x8192x1024_S1024x1024_S4x8192x1024_2_0_01_1_n_n none
    (shapeCast _ (extf .f32 (concatenate S32768x1024 1 [⟨S32768x512, A⟩, ⟨S32768x512, B⟩]
      concatenates_S32768x512_S32768x512_S32768x1024_d1) bitsLt_bf16_f32) shapeCasts_S32768x1024_S4x8192x1024)
    (extf .f32 w bitsLt_bf16_f32)

/-- The product at an index: each half's sum over its own rows of the weight. -/
theorem dT_at (A B : FVec Ideal S32768x512 .bf16) (w : FVec Ideal S1024x1024 .bf16) (r : Fin 32768) (j : Fin 1024) :
    dT A B w (ix3 (⟨r.val / 8192, by omega⟩ : Fin 4) (⟨r.val % 8192, by omega⟩ : Fin 8192) j)
      = (∑ n : Fin 512, A (ix2 r n) * w (ix2 (⟨n.val, by omega⟩ : Fin 1024) j))
        + ∑ n : Fin 512, B (ix2 r n) * w (ix2 (⟨512 + n.val, by omega⟩ : Fin 1024) j) := by
  pointwise [dT]

/-- The gated residual of the output projection. -/
def mixT (X D : FVec Ideal S4x8192x1024 .f32) (M : FVec Ideal S4x9x1024 .f32) (g : FVec Ideal S1x1024 .f32) :
    FVec Ideal S4x8192x1024 .f32 :=
  addf X (mulf (broadcastInDim S4x8192x1024 ![0, 1, 2] bcast_S4x1x1024_S4x8192x1024_0_1_2
      (shapeCast _ (extractStridedSlice S1x4x1x1024 ![5, 0, 0, 0] (modT M) slices_S9x4x1x1024_S1x4x1x1024_5_0_0_0)
        shapeCasts_S1x4x1x1024_S4x1x1024))
    (rmsT D g))

/-- The gated residual at an index. -/
theorem mixT_at (X D : FVec Ideal S4x8192x1024 .f32) (M : FVec Ideal S4x9x1024 .f32) (g : FVec Ideal S1x1024 .f32)
    (b : Fin 4) (s : Fin 8192) (j : Fin 1024) :
    mixT X D M g (ix3 b s j) = X (ix3 b s j) + M (ix3 b 5 j) * rms (fun k => D (ix3 b s k)) (fun k => g (ix2 0 k)) j := by
  pointwise [mixT, rmsT_at, modT]

/-- The modulated pre-norm. -/
def hT (X : FVec Ideal S4x8192x1024 .f32) (M : FVec Ideal S4x9x1024 .f32) (g : FVec Ideal S1x1024 .f32) :
    FVec Ideal S4x8192x1024 .f32 :=
  addf (mulf (rmsT X g) (broadcastInDim S4x8192x1024 ![0, 1, 2] bcast_S4x1x1024_S4x8192x1024_0_1_2
      (addf (broadcastInDim S4x1x1024 ![] bcast_S_S4x1x1024 (constant S_ .f32 0x3F800000#32))
        (shapeCast _ (extractStridedSlice S1x4x1x1024 ![7, 0, 0, 0] (modT M) slices_S9x4x1x1024_S1x4x1x1024_7_0_0_0)
          shapeCasts_S1x4x1x1024_S4x1x1024))))
    (broadcastInDim S4x8192x1024 ![0, 1, 2] bcast_S4x1x1024_S4x8192x1024_0_1_2
      (shapeCast _ (extractStridedSlice S1x4x1x1024 ![6, 0, 0, 0] (modT M) slices_S9x4x1x1024_S1x4x1x1024_6_0_0_0)
        shapeCasts_S1x4x1x1024_S4x1x1024))

/-- The modulated pre-norm at an index. -/
theorem hT_at (X : FVec Ideal S4x8192x1024 .f32) (M : FVec Ideal S4x9x1024 .f32) (g : FVec Ideal S1x1024 .f32)
    (b : Fin 4) (s : Fin 8192) (j : Fin 1024) :
    hT X M g (ix3 b s j) = hRow (fun k => X (ix3 b s k)) (fun k => g (ix2 0 k)) (fun k => M (ix3 b 6 k))
      (fun k => M (ix3 b 7 k)) j := by
  pointwise [hT, hRow, rmsT_at, modT]

/-- Gate and up projections, side by side. -/
def guT (H : FVec Ideal S4x8192x1024 .f32) (W : FVec Ideal S2x2x1024x5632 .bf16) : FVec Ideal S4x8192x5632 .f32 :=
  Host.dotGeneral dot_S4x8192x1024_S1024x5632_S4x8192x5632_2_0_01_1_n_n none H
    (extf .f32 (shapeCast _ (extractStridedSlice S1x1x1024x5632 ![1, 1, 0, 0] W
      slices_S2x2x1024x5632_S1x1x1024x5632_1_1_0_0) shapeCasts_S1x1x1024x5632_S1024x5632) bitsLt_bf16_f32)

/-- The two projections at an index. -/
theorem guT_at (H : FVec Ideal S4x8192x1024 .f32) (W : FVec Ideal S2x2x1024x5632 .bf16) (b : Fin 4) (s : Fin 8192)
    (n : Fin 5632) : guT H W (ix3 b s n) = ∑ k : Fin 1024, H (ix3 b s k) * W (ix4 1 1 k n) := by
  pointwise [guT]

/-- The output projection. -/
def yT (A : FVec Ideal S4x8192x2816 .f32) (W2 : FVec Ideal S2x2x2816x1024 .bf16) : FVec Ideal S4x8192x1024 .f32 :=
  Host.dotGeneral dot_S4x8192x2816_S2816x1024_S4x8192x1024_2_0_01_1_n_n none A
    (extf .f32 (shapeCast _ (extractStridedSlice S1x1x2816x1024 ![1, 1, 0, 0] W2
      slices_S2x2x2816x1024_S1x1x2816x1024_1_1_0_0) shapeCasts_S1x1x2816x1024_S2816x1024) bitsLt_bf16_f32)

/-- The output projection at an index. -/
theorem yT_at (A : FVec Ideal S4x8192x2816 .f32) (W2 : FVec Ideal S2x2x2816x1024 .bf16) (b : Fin 4) (s : Fin 8192)
    (j : Fin 1024) : yT A W2 (ix3 b s j) = ∑ n : Fin 2816, A (ix3 b s n) * W2 (ix4 1 1 n j) := by
  pointwise [yT]

/-- The gated residual. -/
def outT (X Y : FVec Ideal S4x8192x1024 .f32) (M : FVec Ideal S4x9x1024 .f32) (gp : FVec Ideal S1x1024 .f32) :
    FVec Ideal S4x8192x1024 .f32 :=
  addf X (mulf (broadcastInDim S4x8192x1024 ![0, 1, 2] bcast_S4x1x1024_S4x8192x1024_0_1_2
      (mulf (broadcastInDim S4x1x1024 ![] bcast_S_S4x1x1024 (constant S_ .f32 0x3F000000#32))
        (shapeCast _ (extractStridedSlice S1x4x1x1024 ![8, 0, 0, 0] (modT M) slices_S9x4x1x1024_S1x4x1x1024_8_0_0_0)
          shapeCasts_S1x4x1x1024_S4x1x1024)))
    (rmsT Y gp))

/-- The gated residual at an index. -/
theorem outT_at (X Y : FVec Ideal S4x8192x1024 .f32) (M : FVec Ideal S4x9x1024 .f32) (gp : FVec Ideal S1x1024 .f32)
    (b : Fin 4) (s : Fin 8192) (j : Fin 1024) :
    outT X Y M gp (ix3 b s j) = X (ix3 b s j) + Ideal.ofBits .f32 0x3F000000#32 * M (ix3 b 8 j)
      * rms (fun k => Y (ix3 b s k)) (fun k => gp (ix2 0 k)) j := by
  pointwise [outT, rmsT_at, modT]

/-- The whole half step at an index. -/
theorem layer_at (X : FVec Ideal S4x8192x1024 .f32) (M : FVec Ideal S4x9x1024 .f32) (g gp : FVec Ideal S1x1024 .f32)
    (W : FVec Ideal S2x2x1024x5632 .bf16) (W2 : FVec Ideal S2x2x2816x1024 .bf16) (b : Fin 4) (s : Fin 8192) (j : Fin 1024) :
    outT X (yT (actT (guT (hT X M g) W)) W2) M gp (ix3 b s j)
      = layerRow (fun k => X (ix3 b s k)) b M g gp W W2 1 6 7 8 j := by
  rw [outT_at]
  simp only [yT_at, actT_at, guT_at, hT_at]
  rfl

variable (m : (ℓ : Loc nD τ sig) → Buf (Elt Ideal) ℓ) (c : Dev nD)

/-- The tokens after the output projection. -/
def x1T : FVec Ideal S4x8192x1024 .f32 :=
  mixT (xT (m ((c.tc : Thread nD τ).loc main_arg4))) (dT (m ((c.tc : Thread nD τ).loc main_arg0)) (m ((c.tc : Thread nD τ).loc main_arg1))
    (m ((c.tc : Thread nD τ).loc main_arg2))) (m ((c.tc : Thread nD τ).loc main_arg5)) (m ((c.tc : Thread nD τ).loc main_arg3))

/-- Row `r` after the output projection. -/
theorem x1T_at (r : Fin 32768) (j : Fin 1024) :
    x1T m c (ix3 (⟨r.val / 8192, by omega⟩ : Fin 4) (⟨r.val % 8192, by omega⟩ : Fin 8192) j)
      = mixRow (fun n => m ((c.tc : Thread nD τ).loc main_arg0) (ix2 r n)) (fun n => m ((c.tc : Thread nD τ).loc main_arg1) (ix2 r n))
        (fun n k => m ((c.tc : Thread nD τ).loc main_arg2) (ix2 n k)) (fun k => m ((c.tc : Thread nD τ).loc main_arg3) (ix2 0 k))
        (fun k => m ((c.tc : Thread nD τ).loc main_arg4) (ix2 r k))
        (fun k => m ((c.tc : Thread nD τ).loc main_arg5) (ix3 (⟨r.val / 8192, by omega⟩ : Fin 4) 5 k)) j := by
  unfold x1T
  rw [mixT_at]
  simp only [dT_at, xT_at]
  rfl

/-- The reference's result is the half step of the tokens after the output projection. -/
theorem res_eq : Value.res_main_v84 m c = shapeCast S32768x1024 (outT (x1T m c)
      (yT (actT (guT (hT (x1T m c) (m ((c.tc : Thread nD τ).loc main_arg5))
        (m ((c.tc : Thread nD τ).loc main_arg6))) (m ((c.tc : Thread nD τ).loc main_arg8)))) (m ((c.tc : Thread nD τ).loc main_arg9)))
      (m ((c.tc : Thread nD τ).loc main_arg5)) (m ((c.tc : Thread nD τ).loc main_arg7))) shapeCasts_S4x8192x1024_S32768x1024 := by
  unfold Value.res_main_v84 x1T mixT dT outT yT actT guT hT rmsT modT xT
  rfl

/-- Row `r` of the reference's result. -/
theorem res_at (r : Fin 32768) (j : Fin 1024) : Value.res_main_v84 m c (ix2 r j)
      = layerRow (mixRow (fun n => m ((c.tc : Thread nD τ).loc main_arg0) (ix2 r n)) (fun n => m ((c.tc : Thread nD τ).loc main_arg1) (ix2 r n))
        (fun n k => m ((c.tc : Thread nD τ).loc main_arg2) (ix2 n k)) (fun k => m ((c.tc : Thread nD τ).loc main_arg3) (ix2 0 k))
        (fun k => m ((c.tc : Thread nD τ).loc main_arg4) (ix2 r k))
        (fun k => m ((c.tc : Thread nD τ).loc main_arg5) (ix3 (⟨r.val / 8192, by omega⟩ : Fin 4) 5 k))) ⟨r.val / 8192, by omega⟩
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) 1 6 7 8 j := by
  rw [res_eq, flat_at, layer_at]
  simp only [x1T_at]

end Cert.Reference3Ideal.Ffn

end
-- ==== Proof.Ffn.Claim3.lean ====
/- The joined call: kernel and reference compute the same array. -/
module

public import proofs.«01_k».proof.Defs
public import proofs.«01_k».proof.Proof.Ffn.Final3
public import proofs.«01_k».proof.Proof.Ffn.Ref3
public import Idealize.ShloMosaic.Lib.Claim

@[expose] public section

set_option maxRecDepth 16384

noncomputable section

namespace Cert.Proof.Ffn

open Idealize.ShloMosaic Idealize.ShloMosaic.TcCoe Idealize.SL.Sem Idealize.ShloMosaic.Tactic

set_option maxHeartbeats 2000000 in
/-- Over the extended reals the joined call's kernel and its reference leave the same result. -/
theorem algebraic3 : Cert.algebraic_Kernel3Ideal_Reference3Ideal := by
  pair_intro
  · run_from Cert.Kernel3Ideal.Gen.run_main m g
  · run_from Cert.Reference3Ideal.Value.run m' g'
    refine Eq.trans ?_ (Cert.Kernel3Ideal.Ffn.final m c).symm
    obtain ⟨h0, h1, h2, h3, h4, h5, h6, h7, h8, h9⟩ := hagree c
    funext i
    obtain ⟨r, j, rfl⟩ : ∃ (r : Fin 32768) (j : Fin 1024), i = ix2 r j := ⟨i 0, i 1, eq_ix2 i⟩
    rw [Cert.Reference3Ideal.Ffn.res_at, h0, h1, h2, h3, h4, h5, h6, h7, h8, h9]
    rfl

end Cert.Proof.Ffn

end
-- ==== Proof.Proj.Row.lean ====
/- One token of the odd layer's input projection, over the extended reals: the product of the modulated pre-norm with the
   projection's 2304 columns, and the rotary of a column with its partner sixteen columns away. -/
module

public import proofs.«01_k».proof.Proof.Ffn.Row
public import Idealize.ShloMosaic.Lib.Pointwise

@[expose] public section

noncomputable section

namespace Cert.Proj

open Idealize.ShloMosaic

/-- The projection's column `n` of a modulated row `h`. -/
def zRow (h : Fin 1024 → EReal) (W : Fin 1024 → Fin 2304 → EReal) (n : Fin 2304) : EReal := ∑ k, h k * W k n

/-- The other half of a column's pair: columns are paired sixteen apart within each 32. -/
def partner (n : ℕ) : ℕ := if n / 16 % 2 = 0 then n + 16 else n - 16

/-- A column's partner lies in the same 32 columns, so it stays below every multiple of 32 above the column. -/
theorem partner_lt {n k : ℕ} (h : n < 32 * k) : partner n < 32 * k := by
  unfold partner; split <;> omega

/-- Moving a column by a multiple of 32 moves its partner along. -/
theorem partner_add (o n : ℕ) : partner (32 * o + n) = 32 * o + partner n := by
  unfold partner; split <;> split <;> omega

/-- The rotary of column `n`: the column times the cosine of its lane, plus its partner times the (signed) sine. -/
def ropeAt (z : Fin 2304 → EReal) (cs sn : Fin 128 → EReal) (n : Fin 2304) : EReal :=
  z n * cs ⟨n.val % 128, by omega⟩
    + z ⟨partner n.val, partner_lt (k := 72) n.isLt⟩ * sn ⟨n.val % 128, by omega⟩

/-- Column `n` of the token in row `r` of the input, its pre-norm modulated by rows 3 (shift) and 4 (scale) of its batch. -/
def zTok (X : FVec Ideal ⟨2, ![32768, 1024]⟩ .f32) (M : FVec Ideal ⟨3, ![4, 9, 1024]⟩ .f32) (g : FVec Ideal ⟨2, ![1, 1024]⟩ .f32)
    (W : FVec Ideal ⟨2, ![1024, 2304]⟩ .bf16) (r : Fin 32768) (n : Fin 2304) : EReal :=
  zRow (Ffn.hRow (fun k => X (ix2 r k)) (fun k => g (ix2 0 k)) (fun k => M (ix3 (⟨r.val / 8192, by omega⟩ : Fin 4) 3 k))
    (fun k => M (ix3 (⟨r.val / 8192, by omega⟩ : Fin 4) 4 k))) (fun k n => W (ix2 k n)) n

/-- The cosine of column `n`: a head's 64 lanes are two halves, the first turned by the row's angles, the second by the column's. -/
def cosLane (cr cc : Fin 16 → EReal) (n : ℕ) : EReal :=
  if n / 32 % 2 = 0 then cr ⟨n % 16, by omega⟩ else cc ⟨n % 16, by omega⟩

/-- The signed sine of column `n`: the first sixteen lanes of each half subtract. -/
def sinLane (sr sc : Fin 16 → EReal) (n : ℕ) : EReal :=
  if n / 32 % 2 = 0 then (if n / 16 % 2 = 0 then -sr ⟨n % 16, by omega⟩ else sr ⟨n % 16, by omega⟩)
  else (if n / 16 % 2 = 0 then -sc ⟨n % 16, by omega⟩ else sc ⟨n % 16, by omega⟩)

/-- The cosine depends on the column's lane only. -/
theorem cosLane_mod (cr cc : Fin 16 → EReal) {n l : ℕ} (h : n % 64 = l % 64) : cosLane cr cc n = cosLane cr cc l := by
  unfold cosLane
  simp only [show n / 32 % 2 = l / 32 % 2 by omega, show n % 16 = l % 16 by omega]

/-- The signed sine depends on the column's lane only. -/
theorem sinLane_mod (sr sc : Fin 16 → EReal) {n l : ℕ} (h : n % 64 = l % 64) : sinLane sr sc n = sinLane sr sc l := by
  unfold sinLane
  simp only [show n / 32 % 2 = l / 32 % 2 by omega, show n / 16 % 2 = l / 16 % 2 by omega, show n % 16 = l % 16 by omega]

/-- Sixteen pairs of lanes turned: the first of a pair subtracts, the second adds. -/
theorem rot_lane (y : Fin 32 → EReal) (c s : Fin 16 → EReal) (l : Fin 32) :
    (if h : l.val < 16 then y l * c ⟨l.val, h⟩ - y ⟨16 + l.val, by omega⟩ * s ⟨l.val, h⟩
      else y ⟨16 + (l.val - 16), by omega⟩ * c ⟨l.val - 16, by omega⟩ + y ⟨l.val - 16, by omega⟩ * s ⟨l.val - 16, by omega⟩)
    = y l * c ⟨l.val % 16, by omega⟩ + y ⟨partner l.val, partner_lt (k := 1) l.isLt⟩
        * (if l.val / 16 % 2 = 0 then -s ⟨l.val % 16, by omega⟩ else s ⟨l.val % 16, by omega⟩) := by
  split
  · have e : l.val / 16 % 2 = 0 := by omega
    simp only [if_pos e, mul_neg, ← sub_eq_add_neg, show l.val % 16 = l.val by omega,
      show partner l.val = 16 + l.val by unfold partner; split <;> omega]
  · have e : ¬ l.val / 16 % 2 = 0 := by omega
    simp only [if_neg e, show 16 + (l.val - 16) = l.val by omega, show l.val % 16 = l.val - 16 by omega,
      show partner l.val = l.val - 16 by unfold partner; split <;> omega]

/-- The rotary of column `n` of the token in row `r`, by the cosines and sines of its place in the sequence. -/
def ropeTok (X : FVec Ideal ⟨2, ![32768, 1024]⟩ .f32) (M : FVec Ideal ⟨3, ![4, 9, 1024]⟩ .f32) (g : FVec Ideal ⟨2, ![1, 1024]⟩ .f32)
    (W : FVec Ideal ⟨2, ![1024, 2304]⟩ .bf16) (cr sr cc sc : FVec Ideal ⟨2, ![8192, 16]⟩ .f32) (r : Fin 32768) (n : Fin 2304) : EReal :=
  ropeAt (zTok X M g W r)
    (fun l => cosLane (fun d => cr (ix2 (⟨r.val % 8192, by omega⟩ : Fin 8192) d)) (fun d => cc (ix2 (⟨r.val % 8192, by omega⟩ : Fin 8192) d)) l)
    (fun l => sinLane (fun d => sr (ix2 (⟨r.val % 8192, by omega⟩ : Fin 8192) d)) (fun d => sc (ix2 (⟨r.val % 8192, by omega⟩ : Fin 8192) d)) l) n

end Cert.Proj

end
-- ==== Proof.Proj.Point.lean ====
/- What the odd projection's payloads hold at an index. -/
module

public import proofs.«01_k».proof.Proof.Proj.Row
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

namespace Cert.Kernel4Ideal.Proj

open Cert.Kernel4Ideal Cert.Kernel4Ideal.Gen Cert.Ffn Cert.Proj
open Idealize.ShloMosaic Idealize.ShloMosaic.TcCoe Idealize.SL.Sem Idealize.ShloMosaic.Tactic

/-- The pre-norm's payload at an index is `hRow` of the row it reads. -/
theorem h_at (v0 : Vec Ideal S512x1024 .f32) (v1 : Vec Ideal S1x1024 .f32) (v14 v20 : Vec Ideal S1x1x1024 .f32)
    (r : Fin 512) (k : Fin 1024) :
    k0_pay2 v0 v1 v14 v20 (ix2 r k) = hRow (fun k => v0 (ix2 r k)) (fun k => v1 (ix2 0 k)) (fun k => v20 (ix3 0 0 k))
      (fun k => v14 (ix3 0 0 k)) k := by
  pointwise [k0_pay2, hRow, rms]

/-- The mask of a lane: set in the even blocks of sixteen lanes. -/
theorem mask_at (l : Fin 128) : k0_pay5 (ix2 0 l) = if l.val / 16 % 2 = 0 then 1#1 else 0#1 := by
  pointwise [k0_pay5]
  revert l
  decide +kernel

/-- A pair's term at equal columns and lanes. -/
theorem pair_congr {n : ℕ} (z : FVec Ideal ⟨2, ![512, n]⟩ .f32) (cs sn : Vec Ideal S512x128 .f32) (r : Fin 512)
    {a a' p p' : Fin n} {b b' : Fin 128} (ha : a.val = a'.val) (hb : b.val = b'.val) (hp : p.val = p'.val) :
    z (ix2 r a) * cs (ix2 r b) + z (ix2 r p) * sn (ix2 r b)
      = z (ix2 r a') * cs (ix2 r b') + z (ix2 r p') * sn (ix2 r b') := by
  rw [Fin.ext ha, Fin.ext hb, Fin.ext hp]

/-- The rotary of 128 lanes, as the kernel writes it. -/
def rot (z : FVec Ideal S512x128 .f32) (cs sn : Vec Ideal S512x128 .f32) : FVec Ideal S512x128 .f32 :=
  addf (mulf z cs) (mulf (select (broadcastTo S512x128 (shapeCast S1x128 k0_pay5 shapeCasts_S1x128_S1x128) broadcasts_S1x128_S512x128)
    (dynamicRotate 1 112#32 none z rotates_S512x128_d1) (dynamicRotate 1 16#32 none z rotates_S512x128_d1)) sn)

/-- The rotary at an index: the lane times its cosine, plus its partner times its sine. -/
theorem rot_at (z : FVec Ideal S512x128 .f32) (cs sn : Vec Ideal S512x128 .f32) (r : Fin 512) (l : Fin 128) :
    rot z cs sn (ix2 r l) = z (ix2 r l) * cs (ix2 r l)
      + z (ix2 r (⟨partner l.val, partner_lt (k := 4) l.isLt⟩ : Fin 128)) * sn (ix2 r l) := by
  pointwise [rot, mask_at]
  by_cases h : l.val / 16 % 2 = 0
  · rw [if_pos h]
    exact pair_congr z cs sn r rfl rfl (by dsimp only [partner]; rw [if_pos h]; omega)
  · rw [if_neg h]
    exact pair_congr z cs sn r rfl rfl (by dsimp only [partner]; rw [if_neg h]; omega)

/-- The rotary of 512 columns, lane block by lane block. -/
def quad (z : FVec Ideal S512x512 .f32) (cs sn : Vec Ideal S512x128 .f32) : FVec Ideal S512x512 .f32 :=
  concatenate S512x512 1 [⟨S512x128, rot (extractStridedSlice S512x128 ![0, 0] z slices_S512x512_o0_0_S512x128) cs sn⟩,
    ⟨S512x128, rot (extractStridedSlice S512x128 ![0, 128] z slices_S512x512_o0_128_S512x128) cs sn⟩,
    ⟨S512x128, rot (extractStridedSlice S512x128 ![0, 256] z slices_S512x512_o0_256_S512x128) cs sn⟩,
    ⟨S512x128, rot (extractStridedSlice S512x128 ![0, 384] z slices_S512x512_o0_384_S512x128) cs sn⟩]
    concatenates_S512x128_S512x128_S512x128_S512x128_S512x512_d1

/-- The rotary of 512 columns at an index. -/
theorem quad_at (z : FVec Ideal S512x512 .f32) (cs sn : Vec Ideal S512x128 .f32) (r : Fin 512) (j : Fin 512) :
    quad z cs sn (ix2 r j) = z (ix2 r j) * cs (ix2 r (⟨j.val % 128, by omega⟩ : Fin 128))
      + z (ix2 r (⟨partner j.val, partner_lt (k := 16) j.isLt⟩ : Fin 512)) * sn (ix2 r (⟨j.val % 128, by omega⟩ : Fin 128)) := by
  pointwise [quad, rot_at]
  split
  · exact pair_congr z cs sn r rfl (by dsimp only; omega) rfl
  split
  · exact pair_congr z cs sn r (by dsimp only; omega) (by dsimp only; omega) (by dsimp only [partner]; split <;> split <;> omega)
  split
  · exact pair_congr z cs sn r (by dsimp only; omega) (by dsimp only; omega) (by dsimp only [partner]; split <;> split <;> omega)
  · exact pair_congr z cs sn r (by dsimp only; omega) (by dsimp only; omega) (by dsimp only [partner]; split <;> split <;> omega)

/-- The product with 512 columns. -/
def dot512 (h : FVec Ideal S512x1024 .bf16) (w : FVec Ideal S1024x512 .bf16) : FVec Ideal S512x512 .f32 :=
  matmul dot_S512x1024_S1024x512_S512x512_1_0_0_1_n_n none h w (constant S512x512 .f32 0x00000000#32)

/-- The product with 512 columns at an index. -/
theorem dot_at (h : FVec Ideal S512x1024 .bf16) (w : FVec Ideal S1024x512 .bf16) (r j : Fin 512) :
    dot512 h w (ix2 r j) = ∑ k : Fin 1024, h (ix2 r k) * w (ix2 k j) := by
  pointwise [dot512]

/-- The first output's payload is the scaled rotary of its product. -/
theorem pay6_eq (h : FVec Ideal S512x1024 .bf16) (cs sn : Vec Ideal S512x128 .f32) (w : FVec Ideal S1024x512 .bf16) :
    k0_pay6 h cs sn k0_pay5 w
      = truncf .bf16 (mulf (quad (dot512 h w) cs sn)
          (broadcast S512x512 (Scalar.ofBits .f32 0x3E38AA3B#32))) bitsLt_bf16_f32 := rfl

/-- The second output's payload is the rotary of its product. -/
theorem pay7_eq (h : FVec Ideal S512x1024 .bf16) (cs sn : Vec Ideal S512x128 .f32) (w : FVec Ideal S1024x512 .bf16) :
    k0_pay7 h cs sn k0_pay5 w (constant S512x512 .f32 0x00000000#32)
      = truncf .bf16 (quad (dot512 h w) cs sn) bitsLt_bf16_f32 := rfl

/-- The fourth output's payload is the scaled rotary of its product. -/
theorem pay10_eq (h : FVec Ideal S512x1024 .bf16) (cs sn : Vec Ideal S512x128 .f32) (w : FVec Ideal S1024x512 .bf16) :
    k0_pay10 h cs sn k0_pay5 w = truncf .bf16 (mulf (quad (dot512 h w) cs sn)
      (broadcast S512x512 (Scalar.ofBits .f32 0x3E000000#32))) bitsLt_bf16_f32 := rfl

/-- The product with 128 columns. -/
def dot128 (h : FVec Ideal S512x1024 .bf16) (w : FVec Ideal S1024x128 .bf16) : FVec Ideal S512x128 .f32 :=
  matmul dot_S512x1024_S1024x128_S512x128_1_0_0_1_n_n none h w (constant S512x128 .f32 0x00000000#32)

/-- The product with 128 columns at an index. -/
theorem dot128_at (h : FVec Ideal S512x1024 .bf16) (w : FVec Ideal S1024x128 .bf16) (r : Fin 512) (j : Fin 128) :
    dot128 h w (ix2 r j) = ∑ k : Fin 1024, h (ix2 r k) * w (ix2 k j) := by
  pointwise [dot128]

/-- The fifth output's payload is the rotary of its product. -/
theorem pay11_eq (h : FVec Ideal S512x1024 .bf16) (cs sn : Vec Ideal S512x128 .f32) (w : FVec Ideal S1024x128 .bf16) :
    k0_pay11 h cs sn k0_pay5 w = truncf .bf16 (rot (dot128 h w) cs sn) bitsLt_bf16_f32 := rfl

/-- The transposed values at an index: the product there, row and column exchanged. -/
theorem pay9_at (h : FVec Ideal S512x1024 .bf16) (w : FVec Ideal S1024x512 .bf16) (j s : Fin 512) :
    k0_pay9 (k0_pay8 h w) (ix3 0 j s) = ∑ k : Fin 1024, h (ix2 s k) * w (ix2 k j) := by
  pointwise [k0_pay9, k0_pay8]

/-- The transposed window values before they are cut into chunks. -/
theorem pay12_at (h : FVec Ideal S512x1024 .bf16) (w : FVec Ideal S1024x128 .bf16) (j : Fin 128) (s : Fin 512) :
    k0_pay12 h w (ix2 j s) = ∑ k : Fin 1024, h (ix2 s k) * w (ix2 k j) := by
  pointwise [k0_pay12]

end Cert.Kernel4Ideal.Proj

end
-- ==== Proof.Proj.Blk.lean ====
/- What one grid point of the odd projection leaves in its six output blocks, as functions of its input blocks. -/
module

public import proofs.«01_k».proof.Proof.Proj.Point

@[expose] public section

set_option maxRecDepth 16384

noncomputable section

namespace Cert.Kernel4Ideal.Proj

open Cert.Kernel4Ideal Cert.Kernel4Ideal.Gen Cert.Ffn Cert.Proj
open Idealize.ShloMosaic Idealize.ShloMosaic.TcCoe Idealize.SL.Sem Idealize.ShloMosaic.Tactic

variable (x0 : Vec Ideal S512x1024 .f32) (x1 : Vec Ideal S1x9x1024 .f32) (x2 : Vec Ideal S1x1024 .f32)
  (x3 : Vec Ideal S1024x2304 .bf16) (x4 x5 : Vec Ideal S512x128 .f32)

/-- Column `n` of a block's row. -/
def Z (r : Fin 512) (n : Fin 2304) : EReal :=
  zRow (hRow (fun k => x0 (ix2 r k)) (fun k => x2 (ix2 0 k)) (fun k => x1 (ix3 0 3 k)) (fun k => x1 (ix3 0 4 k)))
    (fun k n => x3 (ix2 k n)) n

/-- The rotary of column `n` of a block's row. -/
def Rp (r : Fin 512) (n : Fin 2304) : EReal :=
  ropeAt (Z x0 x1 x2 x3 r) (fun l => x4 (ix2 r l)) (fun l => x5 (ix2 r l)) n

/-- The pre-norm of a block's row. -/
theorem h17_at (r : Fin 512) (k : Fin 1024) : k0_pay17 x0 x1 x2 x3 x4 x5 (ix2 r k)
    = hRow (fun k => x0 (ix2 r k)) (fun k => x2 (ix2 0 k)) (fun k => x1 (ix3 0 3 k)) (fun k => x1 (ix3 0 4 k)) k := by
  unfold k0_pay17
  pointwise [h_at]

/-- A product of the block's rows with a weight that holds the projection's column `n` in its column `j` is `Z` there. -/
theorem dot_eq {c : ℕ} (w : FVec Ideal ⟨2, ![1024, c]⟩ .bf16) (r : Fin 512) (j : Fin c) (n : Fin 2304)
    (hw : ∀ k : Fin 1024, w (ix2 k j) = x3 (ix2 k n)) :
    ∑ k : Fin 1024, k0_pay17 x0 x1 x2 x3 x4 x5 (ix2 r k) * w (ix2 k j) = Z x0 x1 x2 x3 r n := by
  simp only [h17_at, hw]
  rfl

/-- A block's row times the projection's column `n`. -/
theorem dot_self (r : Fin 512) (n : Fin 2304) :
    ∑ k : Fin 1024, k0_pay17 x0 x1 x2 x3 x4 x5 (ix2 r k) * x3 (ix2 k n) = Z x0 x1 x2 x3 r n := by
  simp only [h17_at]
  rfl

/-- The rotary of 512 columns of the product, from the projection's column `o` on, a multiple of 128. -/
theorem quad_eq (w : FVec Ideal S1024x512 .bf16) (cs sn : Vec Ideal S512x128 .f32) (o : ℕ) (ho : 128 * o + 512 ≤ 2304)
    (hw : ∀ (k : Fin 1024) (j : Fin 512), w (ix2 k j) = x3 (ix2 k (⟨128 * o + j.val, by omega⟩ : Fin 2304)))
    (hc : ∀ (r : Fin 512) (l : Fin 128), cs (ix2 r l) = x4 (ix2 r l)) (hs : ∀ (r : Fin 512) (l : Fin 128), sn (ix2 r l) = x5 (ix2 r l))
    (r j : Fin 512) : quad (dot512 (k0_pay17 x0 x1 x2 x3 x4 x5) w) cs sn (ix2 r j)
      = Rp x0 x1 x2 x3 x4 x5 r ⟨128 * o + j.val, by omega⟩ := by
  have hp := partner_lt (n := j.val) (k := 16) j.isLt
  rw [quad_at, dot_at, dot_at, dot_eq x0 x1 x2 x3 x4 x5 w r j _ fun k => hw k j,
    dot_eq x0 x1 x2 x3 x4 x5 w r _ _ fun k => hw k ⟨partner j.val, hp⟩, hc, hs]
  unfold Rp ropeAt
  have e : partner (128 * o + j.val) = 128 * o + partner j.val := by
    rw [show 128 * o = 32 * (4 * o) by omega]; exact partner_add _ _
  have l : (128 * o + j.val) % 128 = j.val % 128 := by omega
  simp only [e, l]

/-- The scaled differential queries. -/
theorem out6_at (r j : Fin 512) : out0_6 x0 x1 x2 x3 x4 x5 (ix2 r j)
    = Rp x0 x1 x2 x3 x4 x5 r ⟨128 * 0 + j.val, by omega⟩ * Ideal.ofBits .f32 0x3E38AA3B#32 := by
  unfold out0_6
  canon_tiles x e
  obtain ⟨a, b, rfl⟩ : ∃ (a b : Fin 512), x = ix2 a b := ⟨x 0, x 1, eq_ix2 x⟩
  obtain rfl : r = a := Fin.ext (by simpa using e0)
  obtain rfl : j = b := Fin.ext (by simpa using e1)
  show (quad _ _ _ (ix2 r j) : EReal) * _ = _
  refine congrArg (· * _) ?_
  refine quad_eq x0 x1 x2 x3 x4 x5 _ _ _ 0 (by omega) (fun k j => ?_) (fun r l => ?_) (fun r l => ?_) r j
  all_goals pointwise [k0_pay18, k0_pay19, k0_pay3, k0_pay4]

/-- The differential keys. -/
theorem out7_at (r j : Fin 512) : out0_7 x0 x1 x2 x3 x4 x5 (ix2 r j)
    = Rp x0 x1 x2 x3 x4 x5 r ⟨128 * 4 + j.val, by omega⟩ := by
  unfold out0_7
  canon_tiles x e
  obtain ⟨a, b, rfl⟩ : ∃ (a b : Fin 512), x = ix2 a b := ⟨x 0, x 1, eq_ix2 x⟩
  obtain rfl : r = a := Fin.ext (by simpa using e0)
  obtain rfl : j = b := Fin.ext (by simpa using e1)
  show (quad _ _ _ (ix2 r j) : EReal) = _
  refine quad_eq x0 x1 x2 x3 x4 x5 _ _ _ 4 (by omega) (fun k j => ?_) (fun r l => ?_) (fun r l => ?_) r j
  all_goals pointwise [k0_pay18, k0_pay19, k0_pay3, k0_pay4]

/-- The differential values, transposed. -/
theorem out8_at (j s : Fin 512) : out0_8 x0 x1 x2 x3 x4 x5 (ix3 0 j s) = Z x0 x1 x2 x3 s ⟨1024 + j.val, by omega⟩ := by
  unfold out0_8
  canon_tiles x e
  obtain ⟨q, a, b, rfl⟩ : ∃ (q : Fin 1) (a b : Fin 512), x = ix3 q a b := ⟨x 0, x 1, x 2, eq_ix3 x⟩
  obtain rfl : j = a := Fin.ext (by simpa using e1)
  obtain rfl : s = b := Fin.ext (by simpa using e2)
  obtain rfl : q = 0 := Subsingleton.elim _ _
  rw [pay9_at]
  exact dot_eq x0 x1 x2 x3 x4 x5 _ s j _ fun k => by pointwise

/-- The scaled window queries. -/
theorem out9_at (r j : Fin 512) : out0_9 x0 x1 x2 x3 x4 x5 (ix2 r j)
    = Rp x0 x1 x2 x3 x4 x5 r ⟨128 * 12 + j.val, by omega⟩ * Ideal.ofBits .f32 0x3E000000#32 := by
  unfold out0_9
  canon_tiles x e
  obtain ⟨a, b, rfl⟩ : ∃ (a b : Fin 512), x = ix2 a b := ⟨x 0, x 1, eq_ix2 x⟩
  obtain rfl : r = a := Fin.ext (by simpa using e0)
  obtain rfl : j = b := Fin.ext (by simpa using e1)
  show (quad _ _ _ (ix2 r j) : EReal) * _ = _
  refine congrArg (· * _) ?_
  refine quad_eq x0 x1 x2 x3 x4 x5 _ _ _ 12 (by omega) (fun k j => ?_) (fun r l => ?_) (fun r l => ?_) r j
  all_goals pointwise [k0_pay18, k0_pay19, k0_pay3, k0_pay4]

/-- The window keys. -/
theorem out10_at (r : Fin 512) (j : Fin 128) : out0_10 x0 x1 x2 x3 x4 x5 (ix2 r j)
    = Rp x0 x1 x2 x3 x4 x5 r ⟨2048 + j.val, by omega⟩ := by
  unfold out0_10
  canon_tiles x e
  obtain ⟨a, b, rfl⟩ : ∃ (a : Fin 512) (b : Fin 128), x = ix2 a b := ⟨x 0, x 1, eq_ix2 x⟩
  obtain rfl : r = a := Fin.ext (by simpa using e0)
  obtain rfl : j = b := Fin.ext (by simpa using e1)
  show (rot (dot128 _ _) _ _ (ix2 r j) : EReal) = _
  have hp := partner_lt (n := j.val) (k := 4) j.isLt
  have hc : partner (2048 + j.val) = 2048 + partner j.val := partner_add 64 j.val
  have l : (2048 + j.val) % 128 = j.val := by omega
  rw [rot_at, dot128_at, dot128_at,
    dot_eq x0 x1 x2 x3 x4 x5 _ r j ⟨2048 + j.val, by omega⟩ fun k => by pointwise,
    dot_eq x0 x1 x2 x3 x4 x5 _ r ⟨partner j.val, hp⟩ ⟨2048 + partner j.val, by omega⟩ fun k => by pointwise]
  unfold Rp ropeAt
  simp only [hc, l]
  pointwise [k0_pay18, k0_pay19, k0_pay3, k0_pay4]

/-- The window values, transposed in chunks of 128 rows. -/
theorem out11_at (q : Fin 4) (j s : Fin 128) : out0_11 x0 x1 x2 x3 x4 x5 (ix4 0 q j s)
    = Z x0 x1 x2 x3 ⟨128 * q.val + s.val, by omega⟩ ⟨2176 + j.val, by omega⟩ := by
  unfold out0_11
  canon_tiles x e
  all_goals
    obtain ⟨u, v, a, b, rfl⟩ : ∃ (u v : Fin 1) (a b : Fin 128), x = ix4 u v a b := ⟨x 0, x 1, x 2, x 3, eq_ix4 x⟩
    obtain rfl : j = a := Fin.ext (by simpa using e2)
    obtain rfl : s = b := Fin.ext (by simpa using e3)
    obtain rfl : u = 0 := Subsingleton.elim _ _
    obtain rfl : v = 0 := Subsingleton.elim _ _
    pointwise [k0_pay1, k0_pay13, k0_pay14, k0_pay15, k0_pay16, pay12_at]
    refine (dot_self x0 x1 x2 x3 x4 x5 _ _).trans ?_
    exact congrArg (fun r => Z x0 x1 x2 x3 r _) (Fin.ext (by simp at e1 ⊢; omega))

end Cert.Kernel4Ideal.Proj

end
-- ==== Proof.Proj.Final.lean ====
/- The odd projection's six result arrays after the kernel's run, token by token. -/
module

public import proofs.«01_k».proof.Proof.Proj.Blk
public import Idealize.ShloMosaic.Lib.StableHlo.ReadAt

@[expose] public section

set_option maxRecDepth 16384

noncomputable section

namespace Cert.Kernel4Ideal.Proj

open Cert.Kernel4Ideal Cert.Kernel4Ideal.Gen Cert.Ffn Cert.Proj
open Idealize.ShloMosaic Idealize.ShloMosaic.TcCoe Idealize.SL.Sem Idealize.ShloMosaic.Tactic

variable (m : (ℓ : Loc nD τ sig) → Buf (Elt Ideal) ℓ) (c : Dev nD)

/-- Which block each window holds at each grid point. -/
theorem idx : ∀ t : Fin cfg0.N, win0_0.index t = ![t.val, 0] ∧ win0_1.index t = ![t.val / 16, 0, 0] ∧ win0_2.index t = ![0, 0]
    ∧ win0_3.index t = ![0, 0] ∧ win0_4.index t = ![t.val % 16, 0] ∧ win0_5.index t = ![t.val % 16, 0] ∧ win0_6.index t = ![t.val, 0]
    ∧ win0_7.index t = ![t.val, 0] ∧ win0_8.index t = ![t.val / 16, 0, t.val % 16] ∧ win0_9.index t = ![t.val, 0]
    ∧ win0_10.index t = ![t.val, 0] ∧ win0_11.index t = ![t.val / 16, t.val % 16, 0, 0] :=
  (by decide +kernel : ∀ t : Fin grid0.N, _)

/-- Column `n` of the token in row `r`, from the arrays that the call is given. -/
def zM (r : Fin 32768) (n : Fin 2304) : EReal :=
  zTok (m ((c : Thread nD τ).loc main_arg0)) (m ((c : Thread nD τ).loc main_arg1)) (m ((c : Thread nD τ).loc main_arg2))
    (m ((c : Thread nD τ).loc main_arg3)) r n

/-- Its rotary. -/
def ropeM (r : Fin 32768) (n : Fin 2304) : EReal :=
  ropeTok (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) r n

/-- The row of the input that row `r` of grid point `t`'s block is. -/
def rowOf (t : Fin cfg0.N) (r : Fin 512) : Fin 32768 := ⟨t.val * 512 + r.val, by
  have : t.val < 64 := t.isLt
  omega⟩

/-- `hRow` of equal rows, projected by equal weights. -/
theorem zRow_congr {x x' g g' m0 m0' m1 m1' : Fin 1024 → EReal} {W W' : Fin 1024 → Fin 2304 → EReal} {n : Fin 2304}
    (hx : ∀ k, x k = x' k) (hg : ∀ k, g k = g' k) (h0 : ∀ k, m0 k = m0' k) (h1 : ∀ k, m1 k = m1' k)
    (hW : ∀ k n, W k n = W' k n) : zRow (hRow x g m0 m1) W n = zRow (hRow x' g' m0' m1') W' n := by
  obtain rfl : x = x' := funext hx
  obtain rfl : g = g' := funext hg
  obtain rfl : m0 = m0' := funext h0
  obtain rfl : m1 = m1' := funext h1
  obtain rfl : W = W' := funext fun k => funext (hW k)
  rfl

/-- A block's column is the token's. -/
theorem Z_eq (t : Fin cfg0.N) (r : Fin 512) (n : Fin 2304) :
    Z (iblk m c 0 t) (iblk m c 1 t) (iblk m c 2 t) (iblk m c 3 t) r n = zM m c (rowOf t r) n := by
  have ht : t.val < 64 := t.isLt
  unfold Z zM zTok rowOf
  refine zRow_congr (fun k => ?_) (fun k => ?_) (fun k => ?_) (fun k => ?_) (fun k n => ?_)
  all_goals blk_ext [iblk, V, idx t]

/-- The contents of buffer `b` at the fourth host operation. -/
abbrev at3 (b : Ref sig .tc) := StableHlo.upto hostOps0 (fun b => m (c, b)) 3 (Proc.tc.devRef b)

/-- Four pieces of sixteen lanes put together and repeated: lane `l` is entry `l % 16` of the piece that holds it. -/
theorem lane4 {A B C D A' B' C' D' : Fin 16 → EReal} (hA : ∀ d, A d = A' d) (hB : ∀ d, B d = B' d) (hC : ∀ d, C d = C' d)
    (hD : ∀ d, D d = D' d) (l : ℕ) (h3 : l % 64 - 16 - 16 - 16 < 16) (h : l % 16 < 16) :
    (if h0 : l % 64 < 16 then A ⟨l % 64, h0⟩ else if h1 : l % 64 - 16 < 16 then B ⟨l % 64 - 16, h1⟩
      else if h2 : l % 64 - 16 - 16 < 16 then C ⟨l % 64 - 16 - 16, h2⟩ else D ⟨l % 64 - 16 - 16 - 16, h3⟩)
      = if l / 32 % 2 = 0 then if l / 16 % 2 = 0 then A' ⟨l % 16, h⟩ else B' ⟨l % 16, h⟩
        else if l / 16 % 2 = 0 then C' ⟨l % 16, h⟩ else D' ⟨l % 16, h⟩ := by
  have e (F : Fin 16 → EReal) {a b : ℕ} {ha : a < 16} {hb : b < 16} (q : a = b) : F ⟨a, ha⟩ = F ⟨b, hb⟩ := by subst q; rfl
  split_ifs <;> first
    | omega
    | exact (hA _).trans (e A' (by omega))
    | exact (hB _).trans (e B' (by omega))
    | exact (hC _).trans (e C' (by omega))
    | exact (hD _).trans (e D' (by omega))

/-- The cosines' table when the region starts. -/
theorem cos_at (p : Fin 8192) (l : Fin 128) : V m c main_v6 (ix2 p l)
    = cosLane (fun d => m ((c : Thread nD τ).loc main_arg4) (ix2 p d)) (fun d => m ((c : Thread nD τ).loc main_arg6) (ix2 p d)) l := by
  unfold cosLane V
  after_reads_at
  simp only [StableHlo.upto_zero]
  refine (lane4 (A' := fun d => m ((c : Thread nD τ).loc main_arg4) (ix2 p d)) (B' := fun d => m ((c : Thread nD τ).loc main_arg4) (ix2 p d))
    (C' := fun d => m ((c : Thread nD τ).loc main_arg6) (ix2 p d)) (D' := fun d => m ((c : Thread nD τ).loc main_arg6) (ix2 p d))
    (fun _ => rfl) (fun _ => rfl) (fun _ => rfl) (fun _ => rfl) l.val (by omega) (by omega)).trans ?_
  simp only [ite_self]

/-- The negated sines of the row angles, an operand of the sines' table. -/
theorem neg_row (p : Fin 8192) (d : Fin 16) : at3 m c main_v1 (ix2 p d) = Neg.neg (α := EReal) (m ((c : Thread nD τ).loc main_arg5) (ix2 p d)) := by
  after_reads_at

/-- The sines of the row angles, an operand of the sines' table. -/
theorem pos_row (p : Fin 8192) (d : Fin 16) : at3 m c main_arg5 (ix2 p d) = m ((c : Thread nD τ).loc main_arg5) (ix2 p d) := by
  after_reads_at

/-- The negated sines of the column angles, an operand of the sines' table. -/
theorem neg_col (p : Fin 8192) (d : Fin 16) : at3 m c main_v2 (ix2 p d) = Neg.neg (α := EReal) (m ((c : Thread nD τ).loc main_arg7) (ix2 p d)) := by
  after_reads_at

/-- The sines of the column angles, an operand of the sines' table. -/
theorem pos_col (p : Fin 8192) (d : Fin 16) : at3 m c main_arg7 (ix2 p d) = m ((c : Thread nD τ).loc main_arg7) (ix2 p d) := by
  after_reads_at

/-- The signed sines' table when the region starts. -/
theorem sin_at (p : Fin 8192) (l : Fin 128) : V m c main_v9 (ix2 p l)
    = sinLane (fun d => m ((c : Thread nD τ).loc main_arg5) (ix2 p d)) (fun d => m ((c : Thread nD τ).loc main_arg7) (ix2 p d)) l := by
  unfold sinLane V
  after_reads_at
  exact lane4 (neg_row m c p) (pos_row m c p) (neg_col m c p) (pos_col m c p) l.val (by omega) (by omega)

/-- A block's rotary is the token's. -/
theorem Rp_eq (t : Fin cfg0.N) (r : Fin 512) (n : Fin 2304) :
    Rp (iblk m c 0 t) (iblk m c 1 t) (iblk m c 2 t) (iblk m c 3 t) (iblk m c 4 t) (iblk m c 5 t) r n = ropeM m c (rowOf t r) n := by
  have ht : t.val < 64 := t.isLt
  have h4 : ∀ l : Fin 128, iblk m c 4 t (ix2 r l)
      = cosLane (fun d => m ((c : Thread nD τ).loc main_arg4) (ix2 (⟨(rowOf t r).val % 8192, by omega⟩ : Fin 8192) d))
        (fun d => m ((c : Thread nD τ).loc main_arg6) (ix2 (⟨(rowOf t r).val % 8192, by omega⟩ : Fin 8192) d)) l := fun l => by
    refine Eq.trans ?_ (cos_at m c _ l)
    unfold rowOf; blk_ext [iblk, idx t]
  have h5 : ∀ l : Fin 128, iblk m c 5 t (ix2 r l)
      = sinLane (fun d => m ((c : Thread nD τ).loc main_arg5) (ix2 (⟨(rowOf t r).val % 8192, by omega⟩ : Fin 8192) d))
        (fun d => m ((c : Thread nD τ).loc main_arg7) (ix2 (⟨(rowOf t r).val % 8192, by omega⟩ : Fin 8192) d)) l := fun l => by
    refine Eq.trans ?_ (sin_at m c _ l)
    unfold rowOf; blk_ext [iblk, idx t]
  unfold Rp ropeM ropeTok ropeAt
  simp only [Z_eq, h4, h5]
  rfl

/-- The scaled differential queries. -/
def G6 (i : S32768x512.Idx) : EReal :=
  ropeM m c (i 0) ⟨(i 1).val, by have : (i 1).val < 512 := (i 1).isLt; omega⟩ * Ideal.ofBits .f32 0x3E38AA3B#32

/-- The differential keys. -/
def G7 (i : S32768x512.Idx) : EReal := ropeM m c (i 0) ⟨512 + (i 1).val, by have : (i 1).val < 512 := (i 1).isLt; omega⟩

/-- The differential values, transposed. -/
def G8 (i : S4x512x8192.Idx) : EReal :=
  zM m c ⟨(i 0).val * 8192 + (i 2).val, by
      have : (i 0).val < 4 := (i 0).isLt
      have : (i 2).val < 8192 := (i 2).isLt
      omega⟩ ⟨1024 + (i 1).val, by have : (i 1).val < 512 := (i 1).isLt; omega⟩

/-- The scaled window queries. -/
def G9 (i : S32768x512.Idx) : EReal :=
  ropeM m c (i 0) ⟨1536 + (i 1).val, by have : (i 1).val < 512 := (i 1).isLt; omega⟩ * Ideal.ofBits .f32 0x3E000000#32

/-- The window keys. -/
def G10 (i : S32768x128.Idx) : EReal := ropeM m c (i 0) ⟨2048 + (i 1).val, by have : (i 1).val < 128 := (i 1).isLt; omega⟩

/-- The window values, transposed in chunks of 128 tokens. -/
def G11 (i : S4x64x128x128.Idx) : EReal :=
  zM m c ⟨(i 0).val * 8192 + (i 1).val * 128 + (i 3).val, by
      have : (i 0).val < 4 := (i 0).isLt
      have : (i 1).val < 64 := (i 1).isLt
      have : (i 3).val < 128 := (i 3).isLt
      omega⟩ ⟨2176 + (i 2).val, by have : (i 2).val < 128 := (i 2).isLt; omega⟩

/-- The rotary at equal places. -/
theorem ropeM_congr {r r' : Fin 32768} {n n' : Fin 2304} (hr : r.val = r'.val) (hn : n.val = n'.val) :
    ropeM m c r n = ropeM m c r' n' := by
  rw [Fin.ext hr, Fin.ext hn]

/-- The columns at equal places. -/
theorem zM_congr {r r' : Fin 32768} {n n' : Fin 2304} (hr : r.val = r'.val) (hn : n.val = n'.val) :
    zM m c r n = zM m c r' n' := by
  rw [Fin.ext hr, Fin.ext hn]

/-- The first result array after the run. -/
theorem final6 : (dats m 0 c).arrAt 6 cfg0.N = G6 m c := by
  refine (dats m 0 c).arrAt_eq_of_covers 6 _ (by decide +kernel) fun t _ y => ?_
  have ht : t.val < 64 := t.isLt
  blk_simp
  rw [after0_6]
  obtain ⟨r, j, rfl⟩ : ∃ (r j : Fin 512), y = ix2 r j := ⟨y 0, y 1, eq_ix2 y⟩
  refine (out6_at ..).trans ?_
  rw [Rp_eq]
  unfold G6
  refine congrArg (· * _) (ropeM_congr m c ?_ ?_)
  · show t.val * 512 + r.val = _
    blk_simp [idx t]
    try (dsimp only [Fin.val_zero]; omega)
  · show 128 * 0 + j.val = _
    blk_simp [idx t]
    try (dsimp only [Fin.val_zero]; omega)

/-- The second result array after the run. -/
theorem final7 : (dats m 0 c).arrAt 7 cfg0.N = G7 m c := by
  refine (dats m 0 c).arrAt_eq_of_covers 7 _ (by decide +kernel) fun t _ y => ?_
  have ht : t.val < 64 := t.isLt
  blk_simp
  rw [after0_7]
  obtain ⟨r, j, rfl⟩ : ∃ (r j : Fin 512), y = ix2 r j := ⟨y 0, y 1, eq_ix2 y⟩
  refine (out7_at ..).trans ?_
  rw [Rp_eq]
  unfold G7
  refine ropeM_congr m c ?_ ?_
  · show t.val * 512 + r.val = _
    blk_simp [idx t]
    try (dsimp only [Fin.val_zero]; omega)
  · show 128 * 4 + j.val = _
    blk_simp [idx t]
    try (dsimp only [Fin.val_zero]; omega)

/-- The third result array after the run. -/
theorem final8 : (dats m 0 c).arrAt 8 cfg0.N = G8 m c := by
  refine (dats m 0 c).arrAt_eq_of_covers 8 _ (by decide +kernel) fun t _ y => ?_
  have ht : t.val < 64 := t.isLt
  blk_simp
  rw [after0_8]
  obtain ⟨q, j, r, rfl⟩ : ∃ (q : Fin 1) (j r : Fin 512), y = ix3 q j r := ⟨y 0, y 1, y 2, eq_ix3 y⟩
  obtain rfl : q = 0 := Subsingleton.elim _ _
  refine (out8_at ..).trans ?_
  rw [Z_eq]
  unfold G8
  refine zM_congr m c ?_ ?_
  · show t.val * 512 + r.val = _
    blk_simp [idx t]
    try (dsimp only [Fin.val_zero]; omega)
  · show 1024 + j.val = _
    blk_simp [idx t]
    try (dsimp only [Fin.val_zero]; omega)

/-- The fourth result array after the run. -/
theorem final9 : (dats m 0 c).arrAt 9 cfg0.N = G9 m c := by
  refine (dats m 0 c).arrAt_eq_of_covers 9 _ (by decide +kernel) fun t _ y => ?_
  have ht : t.val < 64 := t.isLt
  blk_simp
  rw [after0_9]
  obtain ⟨r, j, rfl⟩ : ∃ (r j : Fin 512), y = ix2 r j := ⟨y 0, y 1, eq_ix2 y⟩
  refine (out9_at ..).trans ?_
  rw [Rp_eq]
  unfold G9
  refine congrArg (· * _) (ropeM_congr m c ?_ ?_)
  · show t.val * 512 + r.val = _
    blk_simp [idx t]
    try (dsimp only [Fin.val_zero]; omega)
  · show 128 * 12 + j.val = _
    blk_simp [idx t]
    try (dsimp only [Fin.val_zero]; omega)

/-- The fifth result array after the run. -/
theorem final10 : (dats m 0 c).arrAt 10 cfg0.N = G10 m c := by
  refine (dats m 0 c).arrAt_eq_of_covers 10 _ (by decide +kernel) fun t _ y => ?_
  have ht : t.val < 64 := t.isLt
  blk_simp
  rw [after0_10]
  obtain ⟨r, j, rfl⟩ : ∃ (r : Fin 512) (j : Fin 128), y = ix2 r j := ⟨y 0, y 1, eq_ix2 y⟩
  refine (out10_at ..).trans ?_
  rw [Rp_eq]
  unfold G10
  refine ropeM_congr m c ?_ ?_
  · show t.val * 512 + r.val = _
    blk_simp [idx t]
    try (dsimp only [Fin.val_zero]; omega)
  · show 2048 + j.val = _
    blk_simp [idx t]
    try (dsimp only [Fin.val_zero]; omega)

/-- The sixth result array after the run. -/
theorem final11 : (dats m 0 c).arrAt 11 cfg0.N = G11 m c := by
  refine (dats m 0 c).arrAt_eq_of_covers 11 _ (by decide +kernel) fun t _ y => ?_
  have ht : t.val < 64 := t.isLt
  blk_simp
  rw [after0_11]
  obtain ⟨q, u, j, r, rfl⟩ : ∃ (q : Fin 1) (u : Fin 4) (j r : Fin 128), y = ix4 q u j r := ⟨y 0, y 1, y 2, y 3, eq_ix4 y⟩
  obtain rfl : q = 0 := Subsingleton.elim _ _
  refine (out11_at ..).trans ?_
  rw [Z_eq]
  unfold G11
  refine zM_congr m c ?_ ?_
  · show t.val * 512 + (128 * u.val + r.val) = _
    blk_simp [idx t]
    try (dsimp only [Fin.val_zero]; omega)
  · show 2176 + j.val = _
    blk_simp [idx t]
    try (dsimp only [Fin.val_zero]; omega)

end Cert.Kernel4Ideal.Proj

end
-- ==== Proof.Proj.Ref.lean ====
/- The odd projection's reference, read at an index. -/
module

public import proofs.«01_k».proof.Proof.Proj.Row
public import proofs.«01_k».proof.Proof.Gen.Reference4Ideal.Run

@[expose] public section

set_option maxRecDepth 16384

noncomputable section

namespace Cert.Reference4Ideal.Proj

open Cert.Reference4Ideal Cert.Reference4Ideal.Gen Cert.Ffn Cert.Proj
open Idealize.ShloMosaic Idealize.ShloMosaic.TcCoe Idealize.SL.Sem Idealize.ShloMosaic.Tactic

/-- The norm of every token's row, times `g`. -/
def rmsT (Y : FVec Ideal S4x8192x1024 .f32) (g : FVec Ideal S1x1024 .f32) : FVec Ideal S4x8192x1024 .f32 :=
  mulf (mulf Y (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf Y Y) (constant S_ .f32 0x00000000#32)
      reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

/-- The norm at an index. -/
theorem rmsT_at (Y : FVec Ideal S4x8192x1024 .f32) (g : FVec Ideal S1x1024 .f32) (b : Fin 4) (s : Fin 8192) (j : Fin 1024) :
    rmsT Y g (ix3 b s j) = rms (fun k => Y (ix3 b s k)) (fun k => g (ix2 0 k)) j := by
  pointwise [rmsT, rms]

/-- The modulation rows, the row number in front. -/
def modT (M : FVec Ideal S4x9x1024 .f32) : FVec Ideal S9x4x1x1024 .f32 :=
  broadcastInDim S9x4x1x1024 ![0, 1, 3] bcast_S9x4x1024_S9x4x1x1024_0_1_3
    (transpose S9x4x1024 [1, 0, 2] M transposes_S4x9x1024_S9x4x1024_1_0_2)

/-- A modulation row at an index. -/
theorem modT_at (M : FVec Ideal S4x9x1024 .f32) (q : Fin 9) (b : Fin 4) (j : Fin 1024) :
    modT M (ix4 q b 0 j) = M (ix3 b q j) := by
  pointwise [modT]

/-- The modulated pre-norm. -/
def hT (X : FVec Ideal S4x8192x1024 .f32) (M : FVec Ideal S4x9x1024 .f32) (g : FVec Ideal S1x1024 .f32) :
    FVec Ideal S4x8192x1024 .f32 :=
  addf (mulf (rmsT X g) (broadcastInDim S4x8192x1024 ![0, 1, 2] bcast_S4x1x1024_S4x8192x1024_0_1_2
      (addf (broadcastInDim S4x1x1024 ![] bcast_S_S4x1x1024 (constant S_ .f32 0x3F800000#32))
        (shapeCast _ (extractStridedSlice S1x4x1x1024 ![4, 0, 0, 0] (modT M) slices_S9x4x1x1024_S1x4x1x1024_4_0_0_0)
          shapeCasts_S1x4x1x1024_S4x1x1024))))
    (broadcastInDim S4x8192x1024 ![0, 1, 2] bcast_S4x1x1024_S4x8192x1024_0_1_2
      (shapeCast _ (extractStridedSlice S1x4x1x1024 ![3, 0, 0, 0] (modT M) slices_S9x4x1x1024_S1x4x1x1024_3_0_0_0)
        shapeCasts_S1x4x1x1024_S4x1x1024))

/-- The modulated pre-norm at an index. -/
theorem hT_at (X : FVec Ideal S4x8192x1024 .f32) (M : FVec Ideal S4x9x1024 .f32) (g : FVec Ideal S1x1024 .f32)
    (b : Fin 4) (s : Fin 8192) (j : Fin 1024) :
    hT X M g (ix3 b s j) = hRow (fun k => X (ix3 b s k)) (fun k => g (ix2 0 k)) (fun k => M (ix3 b 3 k))
      (fun k => M (ix3 b 4 k)) j := by
  pointwise [hT, hRow, rmsT_at, modT]

/-- The projection of every token. -/
def zT (X : FVec Ideal S32768x1024 .f32) (M : FVec Ideal S4x9x1024 .f32) (g : FVec Ideal S1x1024 .f32)
    (W : FVec Ideal S1024x2304 .bf16) : FVec Ideal S32768x2304 .f32 :=
  Host.dotGeneral dot_S32768x1024_S1024x2304_S32768x2304_1_0_0_1_n_n none
    (shapeCast S32768x1024 (hT (shapeCast S4x8192x1024 X shapeCasts_S32768x1024_S4x8192x1024) M g) shapeCasts_S4x8192x1024_S32768x1024)
    (extf .f32 W bitsLt_bf16_f32)

/-- The projection at an index. -/
theorem zT_at (X : FVec Ideal S32768x1024 .f32) (M : FVec Ideal S4x9x1024 .f32) (g : FVec Ideal S1x1024 .f32)
    (W : FVec Ideal S1024x2304 .bf16) (r : Fin 32768) (n : Fin 2304) : zT X M g W (ix2 r n) = zTok X M g W r n := by
  unfold zTok zRow
  pointwise [zT, hT_at]

/-- A table's rows, for every batch and head. -/
def tab (t : FVec Ideal S8192x16 .f32) : FVec Ideal S4x8192x8x16 .f32 :=
  broadcastInDim S4x8192x8x16 ![0, 1, 2, 3] bcast_S1x8192x1x16_S4x8192x8x16_0_1_2_3
    (broadcastInDim S1x8192x1x16 ![1, 2, 3] bcast_S8192x1x16_S1x8192x1x16_1_2_3 (shapeCast S8192x1x16 t shapeCasts_S8192x16_S8192x1x16))

/-- A table's rows at an index. -/
theorem tab_at (t : FVec Ideal S8192x16 .f32) (b : Fin 4) (s : Fin 8192) (h : Fin 8) (d : Fin 16) :
    tab t (ix4 b s h d) = t (ix2 s d) := by
  pointwise [tab]

/-- The rotation of 32 lanes: sixteen pairs, turned by a table's angles. -/
def rotT (y : FVec Ideal S4x8192x8x32 .f32) (cs sn : FVec Ideal S8192x16 .f32) : FVec Ideal S4x8192x8x32 .f32 :=
  concatenate S4x8192x8x32 3 [⟨S4x8192x8x16,
      (subf (mulf (extractStridedSlice S4x8192x8x16 ![0, 0, 0, 0] y slices_S4x8192x8x32_S4x8192x8x16_0_0_0_0) (tab cs))
        (mulf (extractStridedSlice S4x8192x8x16 ![0, 0, 0, 16] y slices_S4x8192x8x32_S4x8192x8x16_0_0_0_16) (tab sn)))⟩,
    ⟨S4x8192x8x16,
      (addf (mulf (extractStridedSlice S4x8192x8x16 ![0, 0, 0, 16] y slices_S4x8192x8x32_S4x8192x8x16_0_0_0_16) (tab cs))
        (mulf (extractStridedSlice S4x8192x8x16 ![0, 0, 0, 0] y slices_S4x8192x8x32_S4x8192x8x16_0_0_0_0) (tab sn)))⟩]
    concatenates_S4x8192x8x16_S4x8192x8x16_S4x8192x8x32_d3

/-- The rotation at an index: the lane times the cosine, plus or minus its partner times the sine. -/
theorem rotT_at (y : FVec Ideal S4x8192x8x32 .f32) (cs sn : FVec Ideal S8192x16 .f32) (b : Fin 4) (s : Fin 8192) (h : Fin 8)
    (l : Fin 32) : rotT y cs sn (ix4 b s h l) = y (ix4 b s h l) * cs (ix2 s (⟨l.val % 16, by omega⟩ : Fin 16))
      + y (ix4 b s h (⟨partner l.val, partner_lt (k := 1) l.isLt⟩ : Fin 32))
        * (if l.val / 16 % 2 = 0 then -sn (ix2 s (⟨l.val % 16, by omega⟩ : Fin 16)) else sn (ix2 s (⟨l.val % 16, by omega⟩ : Fin 16))) := by
  pointwise [rotT, tab_at]
  exact rot_lane (fun l => y (ix4 b s h l)) (fun d => cs (ix2 s d)) (fun d => sn (ix2 s d)) l

/-- The axial rotary of heads of 64 lanes: the first half by the row's angles, the second by the column's. -/
def axialT (y : FVec Ideal S4x8192x8x64 .f32) (cr sr cc sc : FVec Ideal S8192x16 .f32) : FVec Ideal S4x8192x8x64 .f32 :=
  concatenate S4x8192x8x64 3 [⟨S4x8192x8x32,
      (rotT (extractStridedSlice S4x8192x8x32 ![0, 0, 0, 0] y slices_S4x8192x8x64_S4x8192x8x32_0_0_0_0) cr sr)⟩,
    ⟨S4x8192x8x32,
      (rotT (extractStridedSlice S4x8192x8x32 ![0, 0, 0, 32] y slices_S4x8192x8x64_S4x8192x8x32_0_0_0_32) cc sc)⟩]
    concatenates_S4x8192x8x32_S4x8192x8x32_S4x8192x8x64_d3

/-- The axial rotary at an index. -/
theorem axialT_at (y : FVec Ideal S4x8192x8x64 .f32) (cr sr cc sc : FVec Ideal S8192x16 .f32) (b : Fin 4) (s : Fin 8192)
    (h : Fin 8) (l : Fin 64) : axialT y cr sr cc sc (ix4 b s h l)
      = y (ix4 b s h l) * cosLane (fun d => cr (ix2 s d)) (fun d => cc (ix2 s d)) l.val
        + y (ix4 b s h (⟨partner l.val, partner_lt (k := 2) l.isLt⟩ : Fin 64))
          * sinLane (fun d => sr (ix2 s d)) (fun d => sc (ix2 s d)) l.val := by
  unfold cosLane sinLane
  pointwise [axialT, rotT_at]
  split
  · rename_i hl
    have e : l.val / 32 % 2 = 0 := by omega
    simp only [if_pos e]
  · rename_i hl
    have e : ¬ l.val / 32 % 2 = 0 := by omega
    simp only [if_neg e, show 32 + (l.val - 32) = l.val by omega, show (l.val - 32) % 16 = l.val % 16 by omega,
      show (l.val - 32) / 16 % 2 = l.val / 16 % 2 by omega,
      show 32 + partner (l.val - 32) = partner l.val by unfold partner; split <;> split <;> omega]

/-- Rows of 512 columns from their heads. -/
theorem flat_at (Y : FVec Ideal S4x8192x8x64 .f32) (r : Fin 32768) (j : Fin 512) :
    shapeCast S32768x512 Y shapeCasts_S4x8192x8x64_S32768x512 (ix2 r j)
      = Y (ix4 (⟨r.val / 8192, by omega⟩ : Fin 4) (⟨r.val % 8192, by omega⟩ : Fin 8192) (⟨j.val / 64, by omega⟩ : Fin 8)
          (⟨j.val % 64, by omega⟩ : Fin 64)) := by
  refine shapeCast_apply _ _ _ _ ?_
  rw [Shape.rowMajor_val_two, Shape.rowMajor_val_four]
  show ((r.val / 8192 * 8192 + r.val % 8192) * 8 + j.val / 64) * 64 + j.val % 64 = r.val * 512 + j.val
  omega

/-- The heads of a row of 512 columns. -/
theorem heads_at (z : FVec Ideal S32768x512 .f32) (r : Fin 32768) (h : Fin 8) (l : Fin 64) :
    shapeCast S4x8192x8x64 z shapeCasts_S32768x512_S4x8192x8x64 (ix4 (⟨r.val / 8192, by omega⟩ : Fin 4)
      (⟨r.val % 8192, by omega⟩ : Fin 8192) h l) = z (ix2 r (⟨h.val * 64 + l.val, by omega⟩ : Fin 512)) := by
  refine shapeCast_apply _ _ _ _ ?_
  rw [Shape.rowMajor_val_two, Shape.rowMajor_val_four]
  show r.val * 512 + (h.val * 64 + l.val) = ((r.val / 8192 * 8192 + r.val % 8192) * 8 + h.val) * 64 + l.val
  omega

/-- The rotary of 512 columns. -/
def ropeT (z : FVec Ideal S32768x512 .f32) (cr sr cc sc : FVec Ideal S8192x16 .f32) : FVec Ideal S32768x512 .f32 :=
  shapeCast S32768x512 (axialT (shapeCast S4x8192x8x64 z shapeCasts_S32768x512_S4x8192x8x64) cr sr cc sc)
    shapeCasts_S4x8192x8x64_S32768x512

/-- The rotary of 512 columns at an index. -/
theorem ropeT_at (z : FVec Ideal S32768x512 .f32) (cr sr cc sc : FVec Ideal S8192x16 .f32) (r : Fin 32768) (j : Fin 512) :
    ropeT z cr sr cc sc (ix2 r j)
      = z (ix2 r j) * cosLane (fun d => cr (ix2 (⟨r.val % 8192, by omega⟩ : Fin 8192) d))
          (fun d => cc (ix2 (⟨r.val % 8192, by omega⟩ : Fin 8192) d)) (j.val % 64)
        + z (ix2 r (⟨partner j.val, partner_lt (k := 16) j.isLt⟩ : Fin 512))
          * sinLane (fun d => sr (ix2 (⟨r.val % 8192, by omega⟩ : Fin 8192) d))
            (fun d => sc (ix2 (⟨r.val % 8192, by omega⟩ : Fin 8192) d)) (j.val % 64) := by
  have e : j.val / 64 * 64 + j.val % 64 = j.val := by omega
  have p : j.val / 64 * 64 + partner (j.val % 64) = partner j.val := by unfold partner; split <;> split <;> omega
  unfold ropeT
  rw [flat_at, axialT_at, heads_at, heads_at]
  simp only [e, p]

/-- A table's rows, for every batch and the two window heads of keys. -/
def tabK (t : FVec Ideal S8192x16 .f32) : FVec Ideal S4x8192x2x16 .f32 :=
  broadcastInDim S4x8192x2x16 ![0, 1, 2, 3] bcast_S1x8192x1x16_S4x8192x2x16_0_1_2_3
    (broadcastInDim S1x8192x1x16 ![1, 2, 3] bcast_S8192x1x16_S1x8192x1x16_1_2_3 (shapeCast S8192x1x16 t shapeCasts_S8192x16_S8192x1x16))

/-- These rows at an index. -/
theorem tabK_at (t : FVec Ideal S8192x16 .f32) (b : Fin 4) (s : Fin 8192) (h : Fin 2) (d : Fin 16) :
    tabK t (ix4 b s h d) = t (ix2 s d) := by
  pointwise [tabK]

/-- The rotation of 32 lanes of the window keys. -/
def rotK (y : FVec Ideal S4x8192x2x32 .f32) (cs sn : FVec Ideal S8192x16 .f32) : FVec Ideal S4x8192x2x32 .f32 :=
  concatenate S4x8192x2x32 3 [⟨S4x8192x2x16,
      (subf (mulf (extractStridedSlice S4x8192x2x16 ![0, 0, 0, 0] y slices_S4x8192x2x32_S4x8192x2x16_0_0_0_0) (tabK cs))
        (mulf (extractStridedSlice S4x8192x2x16 ![0, 0, 0, 16] y slices_S4x8192x2x32_S4x8192x2x16_0_0_0_16) (tabK sn)))⟩,
    ⟨S4x8192x2x16,
      (addf (mulf (extractStridedSlice S4x8192x2x16 ![0, 0, 0, 16] y slices_S4x8192x2x32_S4x8192x2x16_0_0_0_16) (tabK cs))
        (mulf (extractStridedSlice S4x8192x2x16 ![0, 0, 0, 0] y slices_S4x8192x2x32_S4x8192x2x16_0_0_0_0) (tabK sn)))⟩]
    concatenates_S4x8192x2x16_S4x8192x2x16_S4x8192x2x32_d3

/-- This rotation at an index. -/
theorem rotK_at (y : FVec Ideal S4x8192x2x32 .f32) (cs sn : FVec Ideal S8192x16 .f32) (b : Fin 4) (s : Fin 8192) (h : Fin 2)
    (l : Fin 32) : rotK y cs sn (ix4 b s h l) = y (ix4 b s h l) * cs (ix2 s (⟨l.val % 16, by omega⟩ : Fin 16))
      + y (ix4 b s h (⟨partner l.val, partner_lt (k := 1) l.isLt⟩ : Fin 32))
        * (if l.val / 16 % 2 = 0 then -sn (ix2 s (⟨l.val % 16, by omega⟩ : Fin 16)) else sn (ix2 s (⟨l.val % 16, by omega⟩ : Fin 16))) := by
  pointwise [rotK, tabK_at]
  exact rot_lane (fun l => y (ix4 b s h l)) (fun d => cs (ix2 s d)) (fun d => sn (ix2 s d)) l

/-- The axial rotary of the window keys' two heads. -/
def axialK (y : FVec Ideal S4x8192x2x64 .f32) (cr sr cc sc : FVec Ideal S8192x16 .f32) : FVec Ideal S4x8192x2x64 .f32 :=
  concatenate S4x8192x2x64 3 [⟨S4x8192x2x32,
      (rotK (extractStridedSlice S4x8192x2x32 ![0, 0, 0, 0] y slices_S4x8192x2x64_S4x8192x2x32_0_0_0_0) cr sr)⟩,
    ⟨S4x8192x2x32,
      (rotK (extractStridedSlice S4x8192x2x32 ![0, 0, 0, 32] y slices_S4x8192x2x64_S4x8192x2x32_0_0_0_32) cc sc)⟩]
    concatenates_S4x8192x2x32_S4x8192x2x32_S4x8192x2x64_d3

/-- This rotary at an index. -/
theorem axialK_at (y : FVec Ideal S4x8192x2x64 .f32) (cr sr cc sc : FVec Ideal S8192x16 .f32) (b : Fin 4) (s : Fin 8192)
    (h : Fin 2) (l : Fin 64) : axialK y cr sr cc sc (ix4 b s h l)
      = y (ix4 b s h l) * cosLane (fun d => cr (ix2 s d)) (fun d => cc (ix2 s d)) l.val
        + y (ix4 b s h (⟨partner l.val, partner_lt (k := 2) l.isLt⟩ : Fin 64))
          * sinLane (fun d => sr (ix2 s d)) (fun d => sc (ix2 s d)) l.val := by
  unfold cosLane sinLane
  pointwise [axialK, rotK_at]
  split
  · rename_i hl
    have e : l.val / 32 % 2 = 0 := by omega
    simp only [if_pos e]
  · rename_i hl
    have e : ¬ l.val / 32 % 2 = 0 := by omega
    simp only [if_neg e, show 32 + (l.val - 32) = l.val by omega, show (l.val - 32) % 16 = l.val % 16 by omega,
      show (l.val - 32) / 16 % 2 = l.val / 16 % 2 by omega,
      show 32 + partner (l.val - 32) = partner l.val by unfold partner; split <;> split <;> omega]

/-- The rotary of 128 columns. -/
def ropeK (z : FVec Ideal S32768x128 .f32) (cr sr cc sc : FVec Ideal S8192x16 .f32) : FVec Ideal S32768x128 .f32 :=
  shapeCast S32768x128 (axialK (shapeCast S4x8192x2x64 z shapeCasts_S32768x128_S4x8192x2x64) cr sr cc sc)
    shapeCasts_S4x8192x2x64_S32768x128

/-- Rows of 128 columns from their heads. -/
theorem flatK_at (Y : FVec Ideal S4x8192x2x64 .f32) (r : Fin 32768) (j : Fin 128) :
    shapeCast S32768x128 Y shapeCasts_S4x8192x2x64_S32768x128 (ix2 r j)
      = Y (ix4 (⟨r.val / 8192, by omega⟩ : Fin 4) (⟨r.val % 8192, by omega⟩ : Fin 8192) (⟨j.val / 64, by omega⟩ : Fin 2)
          (⟨j.val % 64, by omega⟩ : Fin 64)) := by
  refine shapeCast_apply _ _ _ _ ?_
  rw [Shape.rowMajor_val_two, Shape.rowMajor_val_four]
  show ((r.val / 8192 * 8192 + r.val % 8192) * 2 + j.val / 64) * 64 + j.val % 64 = r.val * 128 + j.val
  omega

/-- The heads of a row of 128 columns. -/
theorem headsK_at (z : FVec Ideal S32768x128 .f32) (r : Fin 32768) (h : Fin 2) (l : Fin 64) :
    shapeCast S4x8192x2x64 z shapeCasts_S32768x128_S4x8192x2x64 (ix4 (⟨r.val / 8192, by omega⟩ : Fin 4)
      (⟨r.val % 8192, by omega⟩ : Fin 8192) h l) = z (ix2 r (⟨h.val * 64 + l.val, by omega⟩ : Fin 128)) := by
  refine shapeCast_apply _ _ _ _ ?_
  rw [Shape.rowMajor_val_two, Shape.rowMajor_val_four]
  show r.val * 128 + (h.val * 64 + l.val) = ((r.val / 8192 * 8192 + r.val % 8192) * 2 + h.val) * 64 + l.val
  omega

/-- The rotary of 128 columns at an index. -/
theorem ropeK_at (z : FVec Ideal S32768x128 .f32) (cr sr cc sc : FVec Ideal S8192x16 .f32) (r : Fin 32768) (j : Fin 128) :
    ropeK z cr sr cc sc (ix2 r j)
      = z (ix2 r j) * cosLane (fun d => cr (ix2 (⟨r.val % 8192, by omega⟩ : Fin 8192) d))
          (fun d => cc (ix2 (⟨r.val % 8192, by omega⟩ : Fin 8192) d)) (j.val % 64)
        + z (ix2 r (⟨partner j.val, partner_lt (k := 4) j.isLt⟩ : Fin 128))
          * sinLane (fun d => sr (ix2 (⟨r.val % 8192, by omega⟩ : Fin 8192) d))
            (fun d => sc (ix2 (⟨r.val % 8192, by omega⟩ : Fin 8192) d)) (j.val % 64) := by
  have e : j.val / 64 * 64 + j.val % 64 = j.val := by omega
  have p : j.val / 64 * 64 + partner (j.val % 64) = partner j.val := by unfold partner; split <;> split <;> omega
  unfold ropeK
  rw [flatK_at, axialK_at, headsK_at, headsK_at]
  simp only [e, p]

variable (X : FVec Ideal S32768x1024 .f32) (M : FVec Ideal S4x9x1024 .f32) (g : FVec Ideal S1x1024 .f32)
  (W : FVec Ideal S1024x2304 .bf16) (cr sr cc sc : FVec Ideal S8192x16 .f32)

/-- The rotary of 512 columns of the projection, from column `128 o` on, is that of the tokens' columns. -/
theorem rope_tok (z : FVec Ideal S32768x512 .f32) (o : ℕ) (ho : 128 * o + 512 ≤ 2304)
    (hz : ∀ (r : Fin 32768) (j : Fin 512), z (ix2 r j) = zT X M g W (ix2 r (⟨128 * o + j.val, by omega⟩ : Fin 2304)))
    (r : Fin 32768) (j : Fin 512) : ropeT z cr sr cc sc (ix2 r j) = ropeTok X M g W cr sr cc sc r ⟨128 * o + j.val, by omega⟩ := by
  have e : partner (128 * o + j.val) = 128 * o + partner j.val := by
    rw [show 128 * o = 32 * (4 * o) by omega]; exact partner_add _ _
  rw [ropeT_at, hz, hz, zT_at, zT_at]
  unfold ropeTok ropeAt
  simp only [e]
  rw [cosLane_mod _ _ (l := (128 * o + j.val) % 128) (by omega), sinLane_mod _ _ (l := (128 * o + j.val) % 128) (by omega)]

/-- The scaled differential queries. -/
def dqT : FVec Ideal S32768x512 .bf16 :=
  truncf .bf16 (mulf (ropeT (extractStridedSlice S32768x512 ![0, 0] (zT X M g W) slices_S32768x2304_S32768x512_0_0) cr sr cc sc)
    (broadcastInDim S32768x512 ![] bcast_S_S32768x512 (constant S_ .f32 0x3E38AA3B#32))) bitsLt_bf16_f32

/-- The differential keys. -/
def dkT : FVec Ideal S32768x512 .bf16 :=
  truncf .bf16 (ropeT (extractStridedSlice S32768x512 ![0, 512] (zT X M g W) slices_S32768x2304_S32768x512_0_512) cr sr cc sc) bitsLt_bf16_f32

/-- The differential values, transposed. -/
def vtT : FVec Ideal S4x512x8192 .bf16 :=
  truncf .bf16 (transpose S4x512x8192 [0, 2, 1] (shapeCast S4x8192x512 (extractStridedSlice S32768x512 ![0, 1024] (zT X M g W)
    slices_S32768x2304_S32768x512_0_1024) shapeCasts_S32768x512_S4x8192x512) transposes_S4x8192x512_S4x512x8192_0_2_1) bitsLt_bf16_f32

/-- The scaled window queries. -/
def wqT : FVec Ideal S32768x512 .bf16 :=
  truncf .bf16 (mulf (ropeT (extractStridedSlice S32768x512 ![0, 1536] (zT X M g W) slices_S32768x2304_S32768x512_0_1536) cr sr cc sc)
    (broadcastInDim S32768x512 ![] bcast_S_S32768x512 (constant S_ .f32 0x3E000000#32))) bitsLt_bf16_f32

/-- The window keys. -/
def wkT : FVec Ideal S32768x128 .bf16 :=
  truncf .bf16 (ropeK (extractStridedSlice S32768x128 ![0, 2048] (zT X M g W) slices_S32768x2304_S32768x128_0_2048) cr sr cc sc) bitsLt_bf16_f32

/-- The window values, transposed in chunks of 128 tokens. -/
def wvT : FVec Ideal S4x64x128x128 .bf16 :=
  truncf .bf16 (transpose S4x64x128x128 [0, 1, 3, 2] (shapeCast S4x64x128x128 (extractStridedSlice S32768x128 ![0, 2176] (zT X M g W)
    slices_S32768x2304_S32768x128_0_2176) shapeCasts_S32768x128_S4x64x128x128) transposes_S4x64x128x128_S4x64x128x128_0_1_3_2) bitsLt_bf16_f32

/-- The scaled differential queries at an index. -/
theorem dqT_at (r : Fin 32768) (j : Fin 512) : dqT X M g W cr sr cc sc (ix2 r j)
    = ropeTok X M g W cr sr cc sc r ⟨128 * 0 + j.val, by omega⟩ * Ideal.ofBits .f32 0x3E38AA3B#32 := by
  refine congrArg (· * Ideal.ofBits .f32 0x3E38AA3B#32) (rope_tok X M g W cr sr cc sc _ 0 (by omega) (fun r j => ?_) r j)
  pointwise

/-- The differential keys at an index. -/
theorem dkT_at (r : Fin 32768) (j : Fin 512) : dkT X M g W cr sr cc sc (ix2 r j)
    = ropeTok X M g W cr sr cc sc r ⟨128 * 4 + j.val, by omega⟩ := by
  refine rope_tok X M g W cr sr cc sc _ 4 (by omega) (fun r j => ?_) r j
  pointwise

/-- The scaled window queries at an index. -/
theorem wqT_at (r : Fin 32768) (j : Fin 512) : wqT X M g W cr sr cc sc (ix2 r j)
    = ropeTok X M g W cr sr cc sc r ⟨128 * 12 + j.val, by omega⟩ * Ideal.ofBits .f32 0x3E000000#32 := by
  refine congrArg (· * Ideal.ofBits .f32 0x3E000000#32) (rope_tok X M g W cr sr cc sc _ 12 (by omega) (fun r j => ?_) r j)
  pointwise

/-- The window keys at an index. -/
theorem wkT_at (r : Fin 32768) (j : Fin 128) : wkT X M g W cr sr cc sc (ix2 r j)
    = ropeTok X M g W cr sr cc sc r ⟨2048 + j.val, by omega⟩ := by
  have hz : ∀ j : Fin 128, extractStridedSlice S32768x128 ![0, 2048] (zT X M g W) slices_S32768x2304_S32768x128_0_2048 (ix2 r j)
      = zTok X M g W r ⟨2048 + j.val, by omega⟩ := fun j => by
    rw [← zT_at]
    pointwise
  have e : partner (2048 + j.val) = 2048 + partner j.val := partner_add 64 j.val
  have l : (2048 + j.val) % 128 = j.val := by omega
  refine (ropeK_at _ cr sr cc sc r j).trans ?_
  rw [hz, hz]
  unfold ropeTok ropeAt
  simp only [e, l]
  rw [cosLane_mod _ _ (n := j.val % 64) (l := j.val) (by omega), sinLane_mod _ _ (n := j.val % 64) (l := j.val) (by omega)]

/-- The differential values at an index. -/
theorem vtT_at (b : Fin 4) (j : Fin 512) (s : Fin 8192) : vtT X M g W (ix3 b j s)
    = zTok X M g W ⟨b.val * 8192 + s.val, by omega⟩ ⟨1024 + j.val, by omega⟩ := by
  rw [← zT_at]
  pointwise [vtT]

/-- The window values at an index. -/
theorem wvT_at (b : Fin 4) (q : Fin 64) (j s : Fin 128) : wvT X M g W (ix4 b q j s)
    = zTok X M g W ⟨b.val * 8192 + q.val * 128 + s.val, by omega⟩ ⟨2176 + j.val, by omega⟩ := by
  rw [← zT_at]
  pointwise [wvT]

variable (m : (ℓ : Loc nD τ sig) → Buf (Elt Ideal) ℓ) (c : Dev nD)

/-- A device's argument or buffer `b` before the run. -/
abbrev A (b : Ref sig .tc) : Buf (Elt Ideal) ((c.tc : Thread nD τ).loc b) := m ((c.tc : Thread nD τ).loc b)

/-- The reference runs, and leaves its six results at the arrays above and its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v81) = dqT (A m c main_arg0) (A m c main_arg1) (A m c main_arg2) (A m c main_arg3) (A m c main_arg4) (A m c main_arg5) (A m c main_arg6) (A m c main_arg7)
      ∧ r.2.mem ((c.tc : Thread nD τ).loc main_v125) = dkT (A m c main_arg0) (A m c main_arg1) (A m c main_arg2) (A m c main_arg3) (A m c main_arg4) (A m c main_arg5) (A m c main_arg6) (A m c main_arg7)
      ∧ r.2.mem ((c.tc : Thread nD τ).loc main_v128) = vtT (A m c main_arg0) (A m c main_arg1) (A m c main_arg2) (A m c main_arg3)
      ∧ r.2.mem ((c.tc : Thread nD τ).loc main_v174) = wqT (A m c main_arg0) (A m c main_arg1) (A m c main_arg2) (A m c main_arg3) (A m c main_arg4) (A m c main_arg5) (A m c main_arg6) (A m c main_arg7)
      ∧ r.2.mem ((c.tc : Thread nD τ).loc main_v218) = wkT (A m c main_arg0) (A m c main_arg1) (A m c main_arg2) (A m c main_arg3) (A m c main_arg4) (A m c main_arg5) (A m c main_arg6) (A m c main_arg7)
      ∧ r.2.mem ((c.tc : Thread nD τ).loc main_v221) = wvT (A m c main_arg0) (A m c main_arg1) (A m c main_arg2) (A m c main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2.1.trans rfl, (h c).2.2.1.trans rfl,
    (h c).2.2.2.1.trans rfl, (h c).2.2.2.2.1.trans rfl, (h c).2.2.2.2.2.1.trans rfl, (h c).2.2.2.2.2.2⟩)
    (Value.run (F := Ideal) m ρ)

end Cert.Reference4Ideal.Proj

end
-- ==== Proof.Proj.Claim.lean ====
/- The odd projection: kernel and reference compute the same six arrays. -/
module

public import proofs.«01_k».proof.Defs
public import proofs.«01_k».proof.Proof.Proj.Final
public import proofs.«01_k».proof.Proof.Proj.Ref
public import Idealize.ShloMosaic.Lib.Claim

@[expose] public section

set_option maxRecDepth 16384

noncomputable section

namespace Cert.Proof.Proj

open Idealize.ShloMosaic Idealize.ShloMosaic.TcCoe Idealize.SL.Sem Idealize.ShloMosaic.Tactic

/-- The frame of the odd projection's reference. -/
theorem frame_ri4 : Cert.quiescent_Reference4Ideal := fun m g _ =>
  (θ_run Cert.Reference4Ideal.defs _ _).mono
    (fun r h => ⟨fun c => (h c).2.2.2.2.2.2, sem_eq_zero_of_no_sems (by decide) r.2⟩)
    (Cert.Reference4Ideal.Value.run (F := Ideal) m g)

set_option maxHeartbeats 4000000 in
/-- Over the extended reals the odd projection's kernel and its reference leave the same results. -/
theorem algebraic4 : Cert.algebraic_Kernel4Ideal_Reference4Ideal := by
  pair_intro
  · run_from Cert.Kernel4Ideal.Gen.run_main m g
  · refine (θ_run Cert.Reference4Ideal.defs _ _).mono (fun r h c => ?_) (Cert.Reference4Ideal.Proj.run m' g')
    obtain ⟨h0, h1, h2, h3, h4, h5, h6, h7⟩ := hagree c
    replace h0 : Cert.Reference4Ideal.Proj.A m' c Cert.Reference4Ideal.main_arg0 = _ := h0
    replace h1 : Cert.Reference4Ideal.Proj.A m' c Cert.Reference4Ideal.main_arg1 = _ := h1
    replace h2 : Cert.Reference4Ideal.Proj.A m' c Cert.Reference4Ideal.main_arg2 = _ := h2
    replace h3 : Cert.Reference4Ideal.Proj.A m' c Cert.Reference4Ideal.main_arg3 = _ := h3
    replace h4 : Cert.Reference4Ideal.Proj.A m' c Cert.Reference4Ideal.main_arg4 = _ := h4
    replace h5 : Cert.Reference4Ideal.Proj.A m' c Cert.Reference4Ideal.main_arg5 = _ := h5
    replace h6 : Cert.Reference4Ideal.Proj.A m' c Cert.Reference4Ideal.main_arg6 = _ := h6
    replace h7 : Cert.Reference4Ideal.Proj.A m' c Cert.Reference4Ideal.main_arg7 = _ := h7
    refine ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩
    · refine Eq.trans ?_ (Cert.Kernel4Ideal.Proj.final6 m c).symm
      funext i
      obtain ⟨r, j, rfl⟩ : ∃ (r : Fin 32768) (j : Fin 512), i = ix2 r j := ⟨i 0, i 1, eq_ix2 i⟩
      rw [Cert.Reference4Ideal.Proj.dqT_at, h0, h1, h2, h3, h4, h5, h6, h7]
      exact congrArg (· * _) (Cert.Kernel4Ideal.Proj.ropeM_congr m c rfl (show 128 * 0 + j.val = j.val by omega))
    · refine Eq.trans ?_ (Cert.Kernel4Ideal.Proj.final7 m c).symm
      funext i
      obtain ⟨r, j, rfl⟩ : ∃ (r : Fin 32768) (j : Fin 512), i = ix2 r j := ⟨i 0, i 1, eq_ix2 i⟩
      rw [Cert.Reference4Ideal.Proj.dkT_at, h0, h1, h2, h3, h4, h5, h6, h7]
      exact Cert.Kernel4Ideal.Proj.ropeM_congr m c rfl (show 128 * 4 + j.val = 512 + j.val by omega)
    · refine Eq.trans ?_ (Cert.Kernel4Ideal.Proj.final8 m c).symm
      funext i
      obtain ⟨b, j, t, rfl⟩ : ∃ (b : Fin 4) (j : Fin 512) (t : Fin 8192), i = ix3 b j t := ⟨i 0, i 1, i 2, eq_ix3 i⟩
      rw [Cert.Reference4Ideal.Proj.vtT_at, h0, h1, h2, h3]
      rfl
    · refine Eq.trans ?_ (Cert.Kernel4Ideal.Proj.final9 m c).symm
      funext i
      obtain ⟨r, j, rfl⟩ : ∃ (r : Fin 32768) (j : Fin 512), i = ix2 r j := ⟨i 0, i 1, eq_ix2 i⟩
      rw [Cert.Reference4Ideal.Proj.wqT_at, h0, h1, h2, h3, h4, h5, h6, h7]
      exact congrArg (· * _) (Cert.Kernel4Ideal.Proj.ropeM_congr m c rfl (show 128 * 12 + j.val = 1536 + j.val by omega))
    · refine Eq.trans ?_ (Cert.Kernel4Ideal.Proj.final10 m c).symm
      funext i
      obtain ⟨r, j, rfl⟩ : ∃ (r : Fin 32768) (j : Fin 128), i = ix2 r j := ⟨i 0, i 1, eq_ix2 i⟩
      rw [Cert.Reference4Ideal.Proj.wkT_at, h0, h1, h2, h3, h4, h5, h6, h7]
      exact Cert.Kernel4Ideal.Proj.ropeM_congr m c rfl rfl
    · refine Eq.trans ?_ (Cert.Kernel4Ideal.Proj.final11 m c).symm
      funext i
      obtain ⟨b, q, j, t, rfl⟩ : ∃ (b : Fin 4) (q : Fin 64) (j t : Fin 128), i = ix4 b q j t :=
        ⟨i 0, i 1, i 2, i 3, eq_ix4 i⟩
      rw [Cert.Reference4Ideal.Proj.wvT_at, h0, h1, h2, h3]
      rfl

end Cert.Proof.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite_values
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Attn.Bits
public import proofs.«01_k».proof.Proof.Attn.Claim
public import proofs.«01_k».proof.Proof.Ffn.Frames
public import proofs.«01_k».proof.Proof.Ffn.Claim2
public import proofs.«01_k».proof.Proof.Ffn.Claim3
public import proofs.«01_k».proof.Proof.Proj.Claim
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_values.Gen.facts,
  Cert.Attn.frame_bits, fun m g _ => Cert.Attn.frame m g, fun m g _ => Cert.Attn.frame m g, Attn.frame_ri, Attn.frame_ri_pre,
  fun m g _ => Cert.Kernel2.Gen.frame m g, fun m g _ => Cert.Kernel2Ideal.Gen.frame m g, Ffn.frame_ri2,
  fun m g _ => Cert.Kernel3.Gen.frame m g, fun m g _ => Cert.Kernel3Ideal.Gen.frame m g, Ffn.frame_ri3,
  fun m g _ => Cert.Kernel4.Gen.frame m g, fun m g _ => Cert.Kernel4Ideal.Gen.frame m g, Proj.frame_ri4,
  trivial, Attn.algebraic, trivial, Ffn.algebraic2, trivial, Ffn.algebraic3, trivial, Proj.algebraic4⟩

end Cert.Proof

end
